-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_and_finite [hPre_causal_and_finite : Cert.Pre_causal_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_and_finite [hPre_causal_and_finite : Cert.Pre_causal_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_causal_and_finite [hKernelIdeal : Cert.KernelIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_causal_and_finite [hReferenceIdeal : Cert.ReferenceIdeal.Facts] [hPre_causal_and_finite : Cert.Pre_causal_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e_over_8" .f32 0x3E38AA3B#32 (((Real.log 256)⁻¹ : ℝ) : EReal)

def algebraic_KernelIdeal_ReferenceIdeal_pre_causal_and_finite [hKernelIdeal : Cert.KernelIdeal.Facts] [hReferenceIdeal : Cert.ReferenceIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_causal_and_finite : Cert.Pre_causal_and_finite.Facts),
    quiescent_Kernel (hKernel := hKernel)
    ∧ quiescent_KernelIdeal (hKernelIdeal := hKernelIdeal)
    ∧ quiescent_KernelIdeal_pre_causal_and_finite (hKernelIdeal := hKernelIdeal) (hPre_causal_and_finite := hPre_causal_and_finite)
    ∧ quiescent_ReferenceIdeal (hReferenceIdeal := hReferenceIdeal)
    ∧ quiescent_ReferenceIdeal_pre_causal_and_finite (hReferenceIdeal := hReferenceIdeal) (hPre_causal_and_finite := hPre_causal_and_finite)
    ∧ preserves_Kernel_KernelIdeal
    ∧ algebraic_KernelIdeal_ReferenceIdeal_pre_causal_and_finite (hKernelIdeal := hKernelIdeal) (hReferenceIdeal := hReferenceIdeal) (hPre_causal_and_finite := hPre_causal_and_finite)
-- ==== Pre_causal_and_finite.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S_ : Shape := ⟨0, ![]⟩

class Facts : Prop where
  bcast_S_S1x1x2048x2048 : S_.BroadcastsInDim S1x1x2048x2048 (![] : Fin 0 → Fin S1x1x2048x2048.rank)
  bcast_S_S2x2048x1024 : S_.BroadcastsInDim S2x2048x1024 (![] : Fin 0 → Fin S2x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_v5 : IVec S1x1x2048x2048 1) (main_v8 : IVec S2x2048x1024 1) (main_v11 : IVec S1024x1024 1) (main_v14 : IVec S1024 1) (main_v17 : IVec S1024x1024 1) (main_v18 : FVec F S1024 .f32) : IVec S1x1x2048x2048 1 × IVec S2x2048x1024 1 × IVec S1024x1024 1 × IVec S1024 1 × IVec S1024x1024 1 × IVec S1024 1 :=
  let main_cst_3 : FVec F S_ .f32 := constant S_ .f32 0x7F800000#32
  let main_v19 : FVec F S1024 .f32 := broadcastInDim S1024 ![] bcast_S_S1024 main_cst_3
  let main_v20 : IVec S1024 1 := cmpf .olt main_v18 main_v19
  (main_v5, main_v8, main_v11, main_v14, main_v17, main_v20)

def fn {F : FTy → Type} [FloatOps F] (main_arg0 : FVec F S2x2048x1024 .f32) (main_arg1 : IVec S1x1x2048x2048 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S1x1x2048x2048 1 × IVec S2x2048x1024 1 × IVec S1024x1024 1 × IVec S1024 1 × IVec S1024x1024 1 × IVec S1024 1 :=
  let main_v0 : IVec S1x1x2048x2048 32 := iotaInDim S1x1x2048x2048 32 2
  let main_v1 : IVec S1x1x2048x2048 32 := iotaInDim S1x1x2048x2048 32 3
  let main_c : IVec S_ 32 := constantI S_ 32 0#32
  let main_v2 : IVec S1x1x2048x2048 32 := broadcastInDim S1x1x2048x2048 ![] bcast_S_S1x1x2048x2048 main_c
  let main_v3 : IVec S1x1x2048x2048 1 := cmpi .ne main_arg1 main_v2
  let main_v4 : IVec S1x1x2048x2048 1 := cmpi .sle main_v1 main_v0
  let main_v5 : IVec S1x1x2048x2048 1 := cmpi .eq main_v3 main_v4
  let main_v6 : FVec F S2x2048x1024 .f32 := Host.absf main_arg0
  let main_cst : FVec F S_ .f32 := constant S_ .f32 0x7F800000#32
  let main_v7 : FVec F S2x2048x1024 .f32 := broadcastInDim S2x2048x1024 ![] bcast_S_S2x2048x1024 main_cst
  let main_v8 : IVec S2x2048x1024 1 := cmpf .olt main_v6 main_v7
  let main_v9 : FVec F S1024x1024 .f32 := Host.absf main_arg2
  let main_cst_0 : FVec F S_ .f32 := constant S_ .f32 0x7F800000#32
  let main_v10 : FVec F S1024x1024 .f32 := broadcastInDim S1024x1024 ![] bcast_S_S1024x1024 main_cst_0
  let main_v11 : IVec S1024x1024 1 := cmpf .olt main_v9 main_v10
  let main_v12 : FVec F S1024 .f32 := Host.absf main_arg3
  let main_cst_1 : FVec F S_ .f32 := constant S_ .f32 0x7F800000#32
  let main_v13 : FVec F S1024 .f32 := broadcastInDim S1024 ![] bcast_S_S1024 main_cst_1
  let main_v14 : IVec S1024 1 := cmpf .olt main_v12 main_v13
  let main_v15 : FVec F S1024x1024 .f32 := Host.absf main_arg4
  let main_cst_2 : FVec F S_ .f32 := constant S_ .f32 0x7F800000#32
  let main_v16 : FVec F S1024x1024 .f32 := broadcastInDim S1024x1024 ![] bcast_S_S1024x1024 main_cst_2
  let main_v17 : IVec S1024x1024 1 := cmpf .olt main_v15 main_v16
  let main_v18 : FVec F S1024 .f32 := Host.absf main_arg5
  fn_part1 (F := F) main_v5 main_v8 main_v11 main_v14 main_v17 main_v18
-- ==== Kernel.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S4x256x1024 : Shape := ⟨3, ![4, 256, 1024]⟩
abbrev S4x1x256 : Shape := ⟨3, ![4, 1, 256]⟩
abbrev S1x1024 : Shape := ⟨2, ![1, 1024]⟩
abbrev S1x2048x1024 : Shape := ⟨3, ![1, 2048, 1024]⟩
abbrev S1024x256 : Shape := ⟨2, ![1024, 256]⟩
abbrev S1x1x256 : Shape := ⟨3, ![1, 1, 256]⟩
abbrev S2048x256 : Shape := ⟨2, ![2048, 256]⟩
abbrev S4x2048x256 : Shape := ⟨3, ![4, 2048, 256]⟩
abbrev S256x256 : Shape := ⟨2, ![256, 256]⟩
abbrev S1x256x1024 : Shape := ⟨3, ![1, 256, 1024]⟩
abbrev S256x1024 : Shape := ⟨2, ![256, 1024]⟩
abbrev S1x256 : Shape := ⟨2, ![1, 256]⟩
abbrev S256x64 : Shape := ⟨2, ![256, 64]⟩
abbrev S256 : Shape := ⟨1, ![256]⟩
abbrev S256x1 : Shape := ⟨2, ![256, 1]⟩
abbrev S1x256x64 : Shape := ⟨3, ![1, 256, 64]⟩
abbrev S512x64 : Shape := ⟨2, ![512, 64]⟩
abbrev S256x512 : Shape := ⟨2, ![256, 512]⟩
abbrev S1x256x256 : Shape := ⟨3, ![1, 256, 256]⟩

abbrev nBuf : Space → Nat
  | .hbm => 17
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x2048x1024, .bf16⟩
  | .hbm, ⟨11, _⟩ => ⟨S4x256x1024, .f32⟩
  | .hbm, ⟨12, _⟩ => ⟨S4x1x256, .f32⟩
  | .hbm, ⟨13, _⟩ => ⟨S4x1x256, .f32⟩
  | .hbm, ⟨14, _⟩ => ⟨S4x1x256, .f32⟩
  | .hbm, ⟨15, _⟩ => ⟨S1x1024, .f32⟩
  | .hbm, ⟨16, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S4x256x1024, .f32⟩
  | .local _ .vmem, ⟨15, _⟩ => ⟨S1x1024, .f32⟩
  | .local _ .vmem, ⟨16, _⟩ => ⟨S1x2048x1024, .f32⟩
  | .local _ .vmem, ⟨17, _⟩ => ⟨S1x2048x1024, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S4x2048x256, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let v273 : Index := Scalar.indexCast arg1
  let c0_184 : Index := 0#32
  let c0_185 : Index := 0#32
  ![v273.toNat, 0, 0]
def k0_off2 (i : grid0.Coords) : Fin 3 → Nat :=
  let arg1 : BitVec 32 := BitVec.ofNat 32 (i 1).val
  let v303 : Index := Scalar.indexCast arg1
  let c256_204 : Index := 256#32
  let c0_205 : Index := 0#32
  ![v303.toNat, 256, 0]
def k0_off3 (i : grid0.Coords) : Fin 3 → Nat :=
  let arg1 : BitVec 32 := BitVec.ofNat 32 (i 1).val
  let v333 : Index := Scalar.indexCast arg1
  let c512_224 : Index := 512#32
  let c0_225 : Index := 0#32
  ![v333.toNat, 512, 0]
def k0_off4 (i : grid0.Coords) : Fin 3 → Nat :=
  let arg1 : BitVec 32 := BitVec.ofNat 32 (i 1).val
  let v373 : Index := Scalar.indexCast arg1
  let c768_251 : Index := 768#32
  let c0_252 : Index := 0#32
  ![v373.toNat, 768, 0]
def k0_off5 (i : grid0.Coords) : Fin 3 → Nat :=
  let arg1 : BitVec 32 := BitVec.ofNat 32 (i 1).val
  let v413 : Index := Scalar.indexCast arg1
  let c1024_278 : Index := 1024#32
  let c0_279 : Index := 0#32
  ![v413.toNat, 1024, 0]
def k0_off6 (i : grid0.Coords) : Fin 3 → Nat :=
  let arg1 : BitVec 32 := BitVec.ofNat 32 (i 1).val
  let v463 : Index := Scalar.indexCast arg1
  let c1280_312 : Index := 1280#32
  let c0_313 : Index := 0#32
  ![v463.toNat, 1280, 0]
def k0_off7 (i : grid0.Coords) : Fin 3 → Nat :=
  let arg1 : BitVec 32 := BitVec.ofNat 32 (i 1).val
  let v513 : Index := Scalar.indexCast arg1
  let c1536_346 : Index := 1536#32
  let c0_347 : Index := 0#32
  ![v513.toNat, 1536, 0]
def k0_off8 (i : grid0.Coords) : Fin 3 → Nat :=
  let arg1 : BitVec 32 := BitVec.ofNat 32 (i 1).val
  let v573 : Index := Scalar.indexCast arg1
  let c1792_387 : Index := 1792#32
  let c0_388 : Index := 0#32
  ![v573.toNat, 1792, 0]
def k0_off9 (i : grid0.Coords) : Fin 3 → Nat :=
  let arg1 : BitVec 32 := BitVec.ofNat 32 (i 1).val
  let v593 : Index := Scalar.indexCast arg1
  let c0_399 : Index := 0#32
  let c64_400 : Index := 64#32
  ![v593.toNat, 0, 64]
def k0_off10 (i : grid0.Coords) : Fin 3 → Nat :=
  let arg1 : BitVec 32 := BitVec.ofNat 32 (i 1).val
  let v623 : Index := Scalar.indexCast arg1
  let c256_419 : Index := 256#32
  let c64_420 : Index := 64#32
  ![v623.toNat, 256, 64]
def k0_off11 (i : grid0.Coords) : Fin 3 → Nat :=
  let arg1 : BitVec 32 := BitVec.ofNat 32 (i 1).val
  let v653 : Index := Scalar.indexCast arg1
  let c512_439 : Index := 512#32
  let c64_440 : Index := 64#32
  ![v653.toNat, 512, 64]
def k0_off12 (i : grid0.Coords) : Fin 3 → Nat :=
  let arg1 : BitVec 32 := BitVec.ofNat 32 (i 1).val
  let v693 : Index := Scalar.indexCast arg1
  let c768_466 : Index := 768#32
  let c64_467 : Index := 64#32
  ![v693.toNat, 768, 64]
def k0_off13 (i : grid0.Coords) : Fin 3 → Nat :=
  let arg1 : BitVec 32 := BitVec.ofNat 32 (i 1).val
  let v733 : Index := Scalar.indexCast arg1
  let c1024_493 : Index := 1024#32
  let c64_494 : Index := 64#32
  ![v733.toNat, 1024, 64]
def k0_off14 (i : grid0.Coords) : Fin 3 → Nat :=
  let arg1 : BitVec 32 := BitVec.ofNat 32 (i 1).val
  let v783 : Index := Scalar.indexCast arg1
  let c1280_527 : Index := 1280#32
  let c64_528 : Index := 64#32
  ![v783.toNat, 1280, 64]
def k0_off15 (i : grid0.Coords) : Fin 3 → Nat :=
  let arg1 : BitVec 32 := BitVec.ofNat 32 (i 1).val
  let v833 : Index := Scalar.indexCast arg1
  let c1536_561 : Index := 1536#32
  let c64_562 : Index := 64#32
  ![v833.toNat, 1536, 64]
def k0_off16 (i : grid0.Coords) : Fin 3 → Nat :=
  let arg1 : BitVec 32 := BitVec.ofNat 32 (i 1).val
  let v893 : Index := Scalar.indexCast arg1
  let c1792_602 : Index := 1792#32
  let c64_603 : Index := 64#32
  ![v893.toNat, 1792, 64]
def k0_off17 (i : grid0.Coords) : Fin 3 → Nat :=
  let arg1 : BitVec 32 := BitVec.ofNat 32 (i 1).val
  let v913 : Index := Scalar.indexCast arg1
  let c0_614 : Index := 0#32
  let c128_615 : Index := 128#32
  ![v913.toNat, 0, 128]
def k0_off18 (i : grid0.Coords) : Fin 3 → Nat :=
  let arg1 : BitVec 32 := BitVec.ofNat 32 (i 1).val
  let v943 : Index := Scalar.indexCast arg1
  let c256_634 : Index := 256#32
  let c128_635 : Index := 128#32
  ![v943.toNat, 256, 128]
def k0_off19 (i : grid0.Coords) : Fin 3 → Nat :=
  let arg1 : BitVec 32 := BitVec.ofNat 32 (i 1).val
  let v973 : Index := Scalar.indexCast arg1
  let c512_654 : Index := 512#32
  let c128_655 : Index := 128#32
  ![v973.toNat, 512, 128]
def k0_off20 (i : grid0.Coords) : Fin 3 → Nat :=
  let arg1 : BitVec 32 := BitVec.ofNat 32 (i 1).val
  let v1013 : Index := Scalar.indexCast arg1
  let c768_681 : Index := 768#32
  let c128_682 : Index := 128#32
  ![v1013.toNat, 768, 128]
def k0_off21 (i : grid0.Coords) : Fin 3 → Nat :=
  let arg1 : BitVec 32 := BitVec.ofNat 32 (i 1).val
  let v1053 : Index := Scalar.indexCast arg1
  let c1024_708 : Index := 1024#32
  let c128_709 : Index := 128#32
  ![v1053.toNat, 1024, 128]
def k0_off22 (i : grid0.Coords) : Fin 3 → Nat :=
  let arg1 : BitVec 32 := BitVec.ofNat 32 (i 1).val
  let v1103 : Index := Scalar.indexCast arg1
  let c1280_742 : Index := 1280#32
  let c128_743 : Index := 128#32
  ![v1103.toNat, 1280, 128]
def k0_off23 (i : grid0.Coords) : Fin 3 → Nat :=
  let arg1 : BitVec 32 := BitVec.ofNat 32 (i 1).val
  let v1153 : Index := Scalar.indexCast arg1
  let c1536_776 : Index := 1536#32
  let c128_777 : Index := 128#32
  ![v1153.toNat, 1536, 128]
def k0_off24 (i : grid0.Coords) : Fin 3 → Nat :=
  let arg1 : BitVec 32 := BitVec.ofNat 32 (i 1).val
  let v1213 : Index := Scalar.indexCast arg1
  let c1792_817 : Index := 1792#32
  let c128_818 : Index := 128#32
  ![v1213.toNat, 1792, 128]
def k0_off25 (i : grid0.Coords) : Fin 3 → Nat :=
  let arg1 : BitVec 32 := BitVec.ofNat 32 (i 1).val
  let v1233 : Index := Scalar.indexCast arg1
  let c0_829 : Index := 0#32
  let c192_830 : Index := 192#32
  ![v1233.toNat, 0, 192]
def k0_off26 (i : grid0.Coords) : Fin 3 → Nat :=
  let arg1 : BitVec 32 := BitVec.ofNat 32 (i 1).val
  let v1263 : Index := Scalar.indexCast arg1
  let c256_849 : Index := 256#32
  let c192_850 : Index := 192#32
  ![v1263.toNat, 256, 192]
def k0_off27 (i : grid0.Coords) : Fin 3 → Nat :=
  let arg1 : BitVec 32 := BitVec.ofNat 32 (i 1).val
  let v1293 : Index := Scalar.indexCast arg1
  let c512_869 : Index := 512#32
  let c192_870 : Index := 192#32
  ![v1293.toNat, 512, 192]
def k0_off28 (i : grid0.Coords) : Fin 3 → Nat :=
  let arg1 : BitVec 32 := BitVec.ofNat 32 (i 1).val
  let v1333 : Index := Scalar.indexCast arg1
  let c768_896 : Index := 768#32
  let c192_897 : Index := 192#32
  ![v1333.toNat, 768, 192]
def k0_off29 (i : grid0.Coords) : Fin 3 → Nat :=
  let arg1 : BitVec 32 := BitVec.ofNat 32 (i 1).val
  let v1373 : Index := Scalar.indexCast arg1
  let c1024_923 : Index := 1024#32
  let c192_924 : Index := 192#32
  ![v1373.toNat, 1024, 192]
def k0_off30 (i : grid0.Coords) : Fin 3 → Nat :=
  let arg1 : BitVec 32 := BitVec.ofNat 32 (i 1).val
  let v1423 : Index := Scalar.indexCast arg1
  let c1280_957 : Index := 1280#32
  let c192_958 : Index := 192#32
  ![v1423.toNat, 1280, 192]
def k0_off31 (i : grid0.Coords) : Fin 3 → Nat :=
  let arg1 : BitVec 32 := BitVec.ofNat 32 (i 1).val
  let v1473 : Index := Scalar.indexCast arg1
  let c1536_991 : Index := 1536#32
  let c192_992 : Index := 192#32
  ![v1473.toNat, 1536, 192]
def k0_off32 (i : grid0.Coords) : Fin 3 → Nat :=
  let arg1 : BitVec 32 := BitVec.ofNat 32 (i 1).val
  let v1533 : Index := Scalar.indexCast arg1
  let c1792_1032 : Index := 1792#32
  let c192_1033 : Index := 192#32
  ![v1533.toNat, 1792, 192]
def k0_cond1 (i : grid0.Coords) : BitVec 1 :=
  let arg1 : BitVec 32 := BitVec.ofNat 32 (i 1).val
  let c3_i32 : BitVec 32 := 3#32
  let v1537 : BitVec 1 := Scalar.cmpi .eq arg1 c3_i32
  let v1538 : BitVec 32 := Scalar.extui v1537
  let c0_i32 : BitVec 32 := 0#32
  let v1539 : BitVec 1 := Scalar.cmpi .ne v1538 c0_i32
  v1539

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2e_over_8" => some (((Real.log 256)⁻¹ : ℝ) : EReal)
  | _ => none
-- ==== ReferenceIdeal.lean ====
abbrev S2x2048x1024 : Shape := ⟨3, ![2, 2048, 1024]⟩
abbrev S1x1x2048x2048 : Shape := ⟨4, ![1, 1, 2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2x2048x1024, .f32⟩
  | .hbm, ⟨11, _⟩ => ⟨S1x1x1024, .f32⟩
  | .hbm, ⟨12, _⟩ => ⟨S2x2048x1024, .f32⟩
  | .hbm, ⟨13, _⟩ => ⟨S2x2048x1024, .f32⟩
  | .hbm, ⟨14, _⟩ => ⟨S2x2048x16x64, .f32⟩
  | .hbm, ⟨15, _⟩ => ⟨S2x16x2048x64, .f32⟩
  | .hbm, ⟨16, _⟩ => ⟨S2x2048x1024, .f32⟩
  | .hbm, ⟨17, _⟩ => ⟨S1x1x1024, .f32⟩
  | .hbm, ⟨18, _⟩ => ⟨S2x2048x1024, .f32⟩
  | .hbm, ⟨19, _⟩ => ⟨S2x2048x1024, .f32⟩
  | .hbm, ⟨20, _⟩ => ⟨S2x2048x16x64, .f32⟩
  | .hbm, ⟨21, _⟩ => ⟨S2x16x2048x64, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x16x64, .f32⟩
  | .hbm, ⟨27, _⟩ => ⟨S2x16x2048x64, .f32⟩
  | .hbm, ⟨28, _⟩ => ⟨S2x16x2048x2048, .f32⟩
  | .hbm, ⟨29, _⟩ => ⟨S_, .f32⟩
  | .hbm, ⟨30, _⟩ => ⟨S2x16x2048x2048, .f32⟩
  | .hbm, ⟨31, _⟩ => ⟨S2x16x2048x2048, .f32⟩
  | .hbm, ⟨32, _⟩ => ⟨S_, .i32⟩
  | .hbm, ⟨33, _⟩ => ⟨S1x1x2048x2048, .i32⟩
  | .hbm, ⟨34, _⟩ => ⟨S1x1x2048x2048, .i1⟩
  | .hbm, ⟨35, _⟩ => ⟨S_, .f32⟩
  | .hbm, ⟨36, _⟩ => ⟨S_, .f32⟩
  | .hbm, ⟨37, _⟩ => ⟨S2x16x2048x2048, .i1⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S2x16x2048, .f32⟩
  | .hbm, ⟨42, _⟩ => ⟨S_, .f32⟩
  | .hbm, ⟨43, _⟩ => ⟨S2x16x2048, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S2x16x2048x1, .f32⟩
  | .hbm, ⟨52, _⟩ => ⟨S2x16x2048x2048, .f32⟩
  | .hbm, ⟨53, _⟩ => ⟨S2x16x2048x2048, .f32⟩
  | .hbm, ⟨54, _⟩ => ⟨S2x16x2048x64, .f32⟩
  | .hbm, ⟨55, _⟩ => ⟨S2x2048x16x64, .f32⟩
  | .hbm, ⟨56, _⟩ => ⟨S2x2048x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Proof.Blocks.lean ====
/- The kernel body written as a program in blocks: eight projection blocks, thirty-two attention
   blocks (four heads by eight query blocks) and, at the last head group, eight output blocks. The
   theorem at the end says that the printed kernel function is this program. -/
module

public import proofs.«01_k».proof.Proof.Gen.KernelIdeal

@[expose] public section

set_option synthInstance.maxSize 4096

noncomputable section

namespace Cert.KernelIdeal.Gen

open Idealize.ShloMosaic Idealize.SL.Sem

variable {F : FTy → Type} [FloatOps F] [Named F]

/-! ## The pure stages -/

/-- The causal pattern of a diagonal block: key at most query. -/
def tri : IVec S256x256 1 :=
  cmpi .sge (iota .tc S256x256 32 [0] iota_S256x256_d0_w32) (iota .tc S256x256 32 [1] iota_S256x256_d1_w32)

/-- The rows of one block of the input as a matrix. -/
def rows (x : Vec F S1x256x1024 .bf16) : FVec F S256x1024 .bf16 := shapeCast S256x1024 x shapeCasts_S1x256x1024_S256x1024

/-- One projection of a block of rows, with its bias. -/
def proj (x : Vec F S1x256x1024 .bf16) (w : FVec F S1024x256 .bf16) (b : Vec F S1x1x256 .f32) : FVec F S256x256 .f32 :=
  addf (matmul dot_S256x1024_S1024x256_S256x256_1_0_0_1_n_n none (rows x) w (constant S256x256 .f32 0x00000000#32))
    (broadcastTo S256x256 (shapeCast S1x256 b shapeCasts_S1x1x256_S1x256) broadcasts_S1x256_S256x256)

/-- The key or value block stored for a block of rows. -/
def kvVal (x : Vec F S1x256x1024 .bf16) (w : FVec F S1024x256 .bf16) (b : Vec F S1x1x256 .f32) : FVec F S256x256 .bf16 :=
  shapeCast S256x256 (truncf .bf16 (proj x w b) bitsLt_bf16_f32) shapeCasts_S256x256_S256x256

/-- The scaled query block stored for a block of rows. -/
def qVal (x : Vec F S1x256x1024 .bf16) (w : FVec F S1024x256 .bf16) (b : Vec F S1x1x256 .f32) : FVec F S256x256 .bf16 :=
  shapeCast S256x256 (truncf .bf16 (mulf (proj x w b) (broadcast S256x256 (Named.named κ "log2e_over_8" 0x3E38AA3B#32))) bitsLt_bf16_f32)
    shapeCasts_S256x256_S256x256

/-- The weights of one query block against 512 keys, before normalisation. -/
def wt512 (q : Vec F S256x64 .bf16) (k : Vec F S512x64 .bf16) : FVec F S256x512 .f32 :=
  exp2 (matmul dot_S256x64_S512x64_S256x512_1_1_0_0_n_n none q k (constant S256x512 .f32 0x00000000#32))

/-- The weights of one query block against 256 keys, before normalisation. -/
def wt256 (q : Vec F S256x64 .bf16) (k : Vec F S256x64 .bf16) : FVec F S256x256 .f32 :=
  exp2 (matmul dot_S256x64_S256x64_S256x256_1_1_0_0_n_n none q k (constant S256x256 .f32 0x00000000#32))

/-- The weights of one query block against the keys of the same block: zero above the diagonal. -/
def wtDiag (q : Vec F S256x64 .bf16) (k : Vec F S256x64 .bf16) : FVec F S256x256 .f32 :=
  select tri (wt256 q k) (broadcast S256x256 (Scalar.ofBits .f32 0x00000000#32))

/-- What 512 keys add to a query block: the weighted values and the sum of the weights. -/
def part512 (p : FVec F S256x512 .f32) (v : Vec F S512x64 .bf16) : FVec F S256x64 .f32 × FVec F S256x1 .f32 :=
  (matmul dot_S256x512_S512x64_S256x64_1_0_0_1_n_n none (truncf .bf16 p bitsLt_bf16_f32) v (constant S256x64 .f32 0x00000000#32),
   shapeCast S256x1 (multiReduction .add [1] S256 p 0x00000000#32 reduces_S256x512_S256 (.inl rfl) rfl) shapeCasts_S256_S256x1)

/-- What 256 keys add to a query block: the weighted values and the sum of the weights. -/
def part256 (p : FVec F S256x256 .f32) (v : Vec F S256x64 .bf16) : FVec F S256x64 .f32 × FVec F S256x1 .f32 :=
  (matmul dot_S256x256_S256x64_S256x64_1_0_0_1_n_n none (truncf .bf16 p bitsLt_bf16_f32) v (constant S256x64 .f32 0x00000000#32),
   shapeCast S256x1 (multiReduction .add [1] S256 p 0x00000000#32 reduces_S256x256_S256 (.inl rfl) rfl) shapeCasts_S256_S256x1)

/-- The running pair with one more span's pair added; the first span starts it. -/
def addPart : Option (FVec F S256x64 .f32 × FVec F S256x1 .f32) → FVec F S256x64 .f32 × FVec F S256x1 .f32 → FVec F S256x64 .f32 × FVec F S256x1 .f32
  | none, b => b
  | some a, b => (addf a.1 b.1, addf a.2 b.2)

/-- The normalised block that is stored. -/
def normVal (a : FVec F S256x64 .f32 × FVec F S256x1 .f32) : FVec F S1x256x64 .bf16 :=
  shapeCast S1x256x64 (truncf .bf16 (mulf a.1 (broadcastTo S256x64 (divf (broadcast S256x1 (Scalar.ofBits .f32 0x3F800000#32)) a.2) broadcasts_S256x1_S256x64))
    bitsLt_bf16_f32) shapeCasts_S256x64_S1x256x64

/-- The product of one head group's block with its slice of the output weights. -/
def outMul (a : Vec F S1x256x256 .bf16) (w : Vec F S1x256x1024 .f32) : FVec F S256x1024 .f32 :=
  matmul dot_S256x256_S256x1024_S256x1024_1_0_0_1_n_n none (shapeCast S256x256 a shapeCasts_S1x256x256_S256x256)
    (truncf .bf16 (shapeCast S256x1024 w shapeCasts_S1x256x1024_S256x1024) bitsLt_bf16_f32) (constant S256x1024 .f32 0x00000000#32)

/-- The output bias over a block of rows. -/
def outBias (b : Vec F S1x1024 .f32) : FVec F S256x1024 .f32 :=
  broadcastTo S256x1024 (shapeCast S1x1024 b shapeCasts_S1x1024_S1x1024) broadcasts_S1x1024_S256x1024

/-! ## The offsets are in bounds and the stores cover whole words -/

/-- A block of 256 rows of the input or output lies within it. -/
theorem inbX (t : Fin 8) : ∀ a, (![0, 256 * t.val, 0] : Fin 3 → Nat) a + S1x256x1024.size a ≤ S1x2048x1024.size a := by
  revert t; decide

/-- A block of 256 rows of a scratch lies within it. -/
theorem inbS (t : Fin 8) : ∀ a, (![256 * t.val, 0] : Fin 2 → Nat) a + S256x256.size a ≤ S2048x256.size a := by
  revert t; decide

/-- A store of a block of 256 rows of a scratch covers whole words. -/
theorem packedS (t : Fin 8) : (Rect.unit (s := S2048x256) ![256 * t.val, 0] S256x256.size (inbS t)).PackedRows (EltTy.packing .bf16) := by
  revert t; decide +kernel

/-- A block of 256 rows of one head of a scratch lies within it. -/
theorem inbH (t : Fin 8) (h : Fin 4) : ∀ a, (![256 * t.val, 64 * h.val] : Fin 2 → Nat) a + S256x64.size a ≤ S2048x256.size a := by
  revert t h; decide

/-- A span of 512 rows of one head of a scratch lies within it. -/
theorem inbH2 (t : Fin 4) (h : Fin 4) : ∀ a, (![512 * t.val, 64 * h.val] : Fin 2 → Nat) a + S512x64.size a ≤ S2048x256.size a := by
  revert t h; decide

/-- Where the attention block of head `h`, query block `t` is stored. -/
def attOff (i : grid0.Coords) (h : Fin 4) (t : Fin 8) : Fin 3 → Nat :=
  ![(Scalar.indexCast (BitVec.ofNat 32 (i 1).val)).toNat, 256 * t.val, 64 * h.val]

/-- The attention block's place by its head group. -/
theorem attOff_eq : ∀ (i : grid0.Coords) (h : Fin 4) (t : Fin 8), attOff i h t = ![(i 1).val, 256 * t.val, 64 * h.val] := by
  intro i h t
  have e : (Scalar.indexCast (BitVec.ofNat 32 (i 1).val)).toNat = (i 1).val := congrFun (k0_off1_eq i) 0
  unfold attOff; rw [e]

/-- An attention block lies within its scratch. -/
theorem inbA : ∀ (i : grid0.Coords) (h : Fin 4) (t : Fin 8), ∀ a, (attOff i h t) a + S1x256x64.size a ≤ S4x2048x256.size a := by
  decide +kernel

/-- A store of an attention block covers whole words. -/
theorem packedA : ∀ (i : grid0.Coords) (h : Fin 4) (t : Fin 8),
    (Rect.unit (s := S4x2048x256) (attOff i h t) S1x256x64.size (inbA i h t)).PackedRows (EltTy.packing .bf16) := by
  decide +kernel

/-- A block of 256 rows of one head group lies within the attention scratch. -/
theorem inbG (g : Fin 4) (t : Fin 8) : ∀ a, (![g.val, 256 * t.val, 0] : Fin 3 → Nat) a + S1x256x256.size a ≤ S4x2048x256.size a := by
  revert g t; decide

/-- One head group's slice lies within the output weights. -/
theorem inbW (g : Fin 4) : ∀ a, (![g.val, 0, 0] : Fin 3 → Nat) a + S1x256x1024.size a ≤ S4x256x1024.size a := by
  revert g; decide

/-! ## The blocks -/

/-- Run `f 0`, …, `f (n - 1)` in order. -/
def seqFin : (n : Nat) → (Fin n → Prog (TpuEff nD τ sig (Elt F) Λ₀ .tc) PUnit) → Prog (TpuEff nD τ sig (Elt F) Λ₀ .tc) PUnit
  | 0, _ => pure ⟨⟩
  | n + 1, f => do
    f 0
    seqFin n fun k => f k.succ

/-- Store one block of a projection: the bias is read, then the scratch (unused), then the block is stored. -/
def putRows (t : Fin 8) (val : Vec F S1x1x256 .f32 → FVec F S256x256 .bf16) (b : Memref sig .tc .vmem S1x1x256 .f32)
    (o : Memref sig .tc .vmem S2048x256 .bf16) (ho : o.IsWhole) : Prog (TpuEff nD τ sig (Elt F) Λ₀ .tc) PUnit := do
  let bv : Vec F S1x1x256 .f32 ← Prog.lift (.load b (Rect.unit (s := S1x1x256) ![0, 0, 0] S1x1x256.size inb_S1x1x256_S1x1x256_0_0_0).toLoadRect (View.loadsAt_vmem h_S1x1x256))
  let _ : Vec F S256x256 .bf16 ← Prog.lift (.load o (Rect.unit (s := S2048x256) ![256 * t.val, 0] S256x256.size (inbS t)).toLoadRect (View.loadsAt_vmem h_S256x256))
  Prog.lift (.store o (Rect.unit (s := S2048x256) ![256 * t.val, 0] S256x256.size (inbS t)) (val bv) Finset.univ (View.stores_vmem h_S256x256 (ho.storeExact_slice rfl _ (packedS t)) (fun _ => rfl)) (.inl rfl))

/-- One projection block: queries, keys and values of 256 rows. -/
def projBlock (x : Memref sig .tc .vmem S1x2048x1024 .bf16) (bq bk bv : Memref sig .tc .vmem S1x1x256 .f32)
    (q : Memref sig .tc .vmem S2048x256 .bf16) (hq : q.IsWhole) (k : Memref sig .tc .vmem S2048x256 .bf16) (hk : k.IsWhole)
    (v : Memref sig .tc .vmem S2048x256 .bf16) (hv : v.IsWhole) (wq wk wv : FVec F S1024x256 .bf16) (t : Fin 8) :
    Prog (TpuEff nD τ sig (Elt F) Λ₀ .tc) PUnit := do
  let xv : Vec F S1x256x1024 .bf16 ← Prog.lift (.load x (Rect.unit (s := S1x2048x1024) ![0, 256 * t.val, 0] S1x256x1024.size (inbX t)).toLoadRect (View.loadsAt_vmem h_S1x256x1024))
  putRows t (qVal xv wq) bq q hq
  putRows t (kvVal xv wk) bk k hk
  putRows t (kvVal xv wv) bv v hv

/-- The first `n` spans of 512 keys for one query block. -/
def spans (k v : Memref sig .tc .vmem S2048x256 .bf16) (h : Fin 4) (q : Vec F S256x64 .bf16) :
    (n : Nat) → n ≤ 4 → Prog (TpuEff nD τ sig (Elt F) Λ₀ .tc) (Option (FVec F S256x64 .f32 × FVec F S256x1 .f32))
  | 0, _ => pure none
  | n + 1, hn => do
    let o ← spans k v h q n (Nat.le_of_succ_le hn)
    let kv : Vec F S512x64 .bf16 ← Prog.lift (.load k (Rect.unit (s := S2048x256) ![512 * n, 64 * h.val] S512x64.size (inbH2 ⟨n, hn⟩ h)).toLoadRect (View.loadsAt_vmem h_S512x64))
    let vv : Vec F S512x64 .bf16 ← Prog.lift (.load v (Rect.unit (s := S2048x256) ![512 * n, 64 * h.val] S512x64.size (inbH2 ⟨n, hn⟩ h)).toLoadRect (View.loadsAt_vmem h_S512x64))
    pure (some (addPart o (part512 (wt512 q kv) vv)))

/-- One span of 256 keys, block `t`, with the weights `wt`. -/
def span (k v : Memref sig .tc .vmem S2048x256 .bf16) (h : Fin 4) (wt : Vec F S256x64 .bf16 → FVec F S256x256 .f32) (t : Fin 8)
    (o : Option (FVec F S256x64 .f32 × FVec F S256x1 .f32)) :
    Prog (TpuEff nD τ sig (Elt F) Λ₀ .tc) (FVec F S256x64 .f32 × FVec F S256x1 .f32) := do
  let kv : Vec F S256x64 .bf16 ← Prog.lift (.load k (Rect.unit (s := S2048x256) ![256 * t.val, 64 * h.val] S256x64.size (inbH t h)).toLoadRect (View.loadsAt_vmem h_S256x64))
  let vv : Vec F S256x64 .bf16 ← Prog.lift (.load v (Rect.unit (s := S2048x256) ![256 * t.val, 64 * h.val] S256x64.size (inbH t h)).toLoadRect (View.loadsAt_vmem h_S256x64))
  pure (addPart o (part256 (wt kv) vv))

/-- The keys before the query block's own: spans of 512, then one of 256 when their number is odd. -/
def before (k v : Memref sig .tc .vmem S2048x256 .bf16) (h : Fin 4) (t : Fin 8) (q : Vec F S256x64 .bf16) :
    Prog (TpuEff nD τ sig (Elt F) Λ₀ .tc) (Option (FVec F S256x64 .f32 × FVec F S256x1 .f32)) := do
  let o ← spans k v h q (t.val / 2) (by omega)
  if t.val % 2 = 1 then do
    let a ← span k v h (wt256 q) ⟨t.val - 1, by omega⟩ o
    pure (some a)
  else pure o

/-- One attention block: head `h`, query block `t`. -/
def attBlock (i : grid0.Coords) (q k v : Memref sig .tc .vmem S2048x256 .bf16) (a : Memref sig .tc .vmem S4x2048x256 .bf16) (ha : a.IsWhole)
    (h : Fin 4) (t : Fin 8) : Prog (TpuEff nD τ sig (Elt F) Λ₀ .tc) PUnit := do
  let qv : Vec F S256x64 .bf16 ← Prog.lift (.load q (Rect.unit (s := S2048x256) ![256 * t.val, 64 * h.val] S256x64.size (inbH t h)).toLoadRect (View.loadsAt_vmem h_S256x64))
  let o ← before k v h t qv
  let r ← span k v h (wtDiag qv) t o
  let _ : Vec F S1x256x64 .bf16 ← Prog.lift (.load a (Rect.unit (s := S4x2048x256) (attOff i h t) S1x256x64.size (inbA i h t)).toLoadRect (View.loadsAt_vmem h_S1x256x64))
  Prog.lift (.store a (Rect.unit (s := S4x2048x256) (attOff i h t) S1x256x64.size (inbA i h t)) (normVal r) Finset.univ (View.stores_vmem h_S1x256x64 (ha.storeExact_slice rfl _ (packedA i h t)) (fun _ => rfl)) (.inl rfl))

/-- One head group's term of an output block. -/
def outTerm (a : Memref sig .tc .vmem S4x2048x256 .bf16) (w : Memref sig .tc .vmem S4x256x1024 .f32) (t : Fin 8) (g : Fin 4) (acc : FVec F S256x1024 .f32) :
    Prog (TpuEff nD τ sig (Elt F) Λ₀ .tc) (FVec F S256x1024 .f32) := do
  let av : Vec F S1x256x256 .bf16 ← Prog.lift (.load a (Rect.unit (s := S4x2048x256) ![g.val, 256 * t.val, 0] S1x256x256.size (inbG g t)).toLoadRect (View.loadsAt_vmem h_S1x256x256))
  let wv : Vec F S1x256x1024 .f32 ← Prog.lift (.load w (Rect.unit (s := S4x256x1024) ![g.val, 0, 0] S1x256x1024.size (inbW g)).toLoadRect (View.loadsAt_vmem h_S1x256x1024))
  pure (addf acc (outMul av wv))

/-- One output block: 256 rows. -/
def outBlock (a : Memref sig .tc .vmem S4x2048x256 .bf16) (w : Memref sig .tc .vmem S4x256x1024 .f32) (b : Memref sig .tc .vmem S1x1024 .f32)
    (o : Memref sig .tc .vmem S1x2048x1024 .f32) (t : Fin 8) : Prog (TpuEff nD τ sig (Elt F) Λ₀ .tc) PUnit := do
  let bv : Vec F S1x1024 .f32 ← Prog.lift (.load b (Rect.unit (s := S1x1024) ![0, 0] S1x1024.size inb_S1x1024_S1x1024_0_0).toLoadRect (View.loadsAt_vmem h_S1x1024))
  let r ← outTerm a w t 0 (outBias bv)
  let r ← outTerm a w t 1 r
  let r ← outTerm a w t 2 r
  let r ← outTerm a w t 3 r
  let _ : Vec F S1x256x1024 .f32 ← Prog.lift (.load o (Rect.unit (s := S1x2048x1024) ![0, 256 * t.val, 0] S1x256x1024.size (inbX t)).toLoadRect (View.loadsAt_vmem h_S1x256x1024))
  Prog.lift (.store o (Rect.unit (s := S1x2048x1024) ![0, 256 * t.val, 0] S1x256x1024.size (inbX t)) (shapeCast S1x256x1024 r shapeCasts_S256x1024_S1x256x1024) Finset.univ (View.stores_vmem_bits_univ h_S1x256x1024 rfl) (.inl rfl))

/-- The whole body in blocks. -/
def body (i : grid0.Coords) (arg2 : Memref sig .tc .vmem S1x2048x1024 .bf16) (arg3 : Memref sig .tc .vmem S1024x256 .f32) (arg4 : Memref sig .tc .vmem S1024x256 .f32)
    (arg5 : Memref sig .tc .vmem S1024x256 .f32) (arg6 : Memref sig .tc .vmem S1x1x256 .f32) (arg7 : Memref sig .tc .vmem S1x1x256 .f32) (arg8 : Memref sig .tc .vmem S1x1x256 .f32)
    (arg9 : Memref sig .tc .vmem S4x256x1024 .f32) (arg10 : Memref sig .tc .vmem S1x1024 .f32) (arg11 : Memref sig .tc .vmem S1x2048x1024 .f32)
    (arg12 : Memref sig .tc .vmem S2048x256 .bf16) (harg12 : arg12.IsWhole) (arg13 : Memref sig .tc .vmem S2048x256 .bf16) (harg13 : arg13.IsWhole)
    (arg14 : Memref sig .tc .vmem S2048x256 .bf16) (harg14 : arg14.IsWhole) (arg15 : Memref sig .tc .vmem S4x2048x256 .bf16) (harg15 : arg15.IsWhole) :
    Prog (TpuEff nD τ sig (Elt F) Λ₀ .tc) PUnit := do
  let wq : Vec F S1024x256 .f32 ← Prog.lift (.load arg3 (Rect.unit (s := S1024x256) ![0, 0] S1024x256.size inb_S1024x256_S1024x256_0_0).toLoadRect (View.loadsAt_vmem h_S1024x256))
  let wk : Vec F S1024x256 .f32 ← Prog.lift (.load arg4 (Rect.unit (s := S1024x256) ![0, 0] S1024x256.size inb_S1024x256_S1024x256_0_0).toLoadRect (View.loadsAt_vmem h_S1024x256))
  let wv : Vec F S1024x256 .f32 ← Prog.lift (.load arg5 (Rect.unit (s := S1024x256) ![0, 0] S1024x256.size inb_S1024x256_S1024x256_0_0).toLoadRect (View.loadsAt_vmem h_S1024x256))
  seqFin 8 (projBlock arg2 arg6 arg7 arg8 arg12 harg12 arg13 harg13 arg14 harg14 (truncf .bf16 wq bitsLt_bf16_f32) (truncf .bf16 wk bitsLt_bf16_f32) (truncf .bf16 wv bitsLt_bf16_f32))
  seqFin 4 fun h => seqFin 8 fun t => attBlock i arg12 arg13 arg14 arg15 harg15 h t
  if h1 : k0_cond1 i = 1#1 then seqFin 8 (outBlock arg15 arg9 arg10 arg11) else pure ⟨⟩

end Cert.KernelIdeal.Gen

end
-- ==== Proof.Triples.lean ====
/- What each block of the body does to the buffers it is given: loads read windows, stores put
   blocks. -/
module

public import proofs.«01_k».proof.Proof.Blocks
public import proofs.«01_k».proof.Proof.Gen.KernelIdeal.Frame
public import Idealize.ShloMosaic.Lib.VecWindow
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- The run of a program of this kernel on core `c`, to the continuation `K`. -/
abbrev runs {α : Type} (c : Dev nD) (E : Set ℕ) (p : Prog (TpuEff nD τ sig (Elt F) Λ₀ .tc) α) (K : α → sProp 𝕄) : sProp 𝕄 :=
  wp frame (wpE (defs₀ (F := F)) Variants.none (c : Thread nD τ) none) E p K

/-! ## One load, one store -/

/-- A load of a window of a buffer held at `x` reads that window of `x`. -/
theorem runs_load (c : Dev nD) (E : Set ℕ) {s : Shape} {e : EltTy} {m : Memref sig .tc .vmem s e} (x : s.Idx → Elt F e)
    {off size : Fin s.rank → ℕ} {inb : ∀ a, off a + size a ≤ s.size a} {hl : m.view.LoadsAt (Rect.unit off size inb).toLoadRect}
    (K : ((Rect.unit off size inb).shape.Idx → Elt F e) → sProp 𝕄) :
    iprop(owns (c : Thread nD τ) m fullShare x ∗ (owns (c : Thread nD τ) m fullShare x -∗ K (window x off size inb)))
      ⊢ runs c E (Prog.lift (.load m (Rect.unit off size inb).toLoadRect hl)) K := by
  unfold owns runs
  iintro ⟨⟨%f, %hf, H⟩, Hk⟩
  obtain rfl := hf
  sl_exec
  sl_step
  rw [View.readAt_unit m.view f inb rfl inb]
  iapply Hk
  iexists f; isplitr; · ipureintro; rfl
  iexact H

/-- An unmasked store over a window of a buffer held at `x` leaves `x` with the payload there. -/
theorem runs_store (c : Dev nD) (E : Set ℕ) {s : Shape} {e : EltTy} {m : Memref sig .tc .vmem s e} (x : s.Idx → Elt F e)
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    (K : PUnit → sProp 𝕄) :
    iprop(owns (c : Thread nD τ) m fullShare x ∗ (owns (c : Thread nD τ) m fullShare (put x off size w) -∗ K ⟨⟩))
      ⊢ runs c E (Prog.lift (.store m (Rect.unit off size inb) w Finset.univ hx hm)) K := by
  unfold owns runs
  iintro ⟨⟨%f, %hf, H⟩, Hk⟩
  obtain rfl := hf
  sl_exec
  sl_step
  iapply Hk
  iexists _; isplitr; swap; · iexact H
  ipureintro
  exact View.read_writes_cons_put m.view f inb w [] rfl

/-- A program then another: run the first to the run of the second. -/
theorem runs_bind {α β : Type} (c : Dev nD) (E : Set ℕ) (p : Prog (TpuEff nD τ sig (Elt F) Λ₀ .tc) α) (k : α → Prog (TpuEff nD τ sig (Elt F) Λ₀ .tc) β)
    (K : β → sProp 𝕄) : runs c E (p >>= k) K = runs c E p (fun a => runs c E (k a) K) := by
  unfold runs; rw [wp_bind]

/-- A program that only returns. -/
theorem runs_pure {α : Type} (c : Dev nD) (E : Set ℕ) (a : α) (K : α → sProp 𝕄) : K a ⊢ runs c E (pure a) K := by
  unfold runs
  iintro H
  sl_step
  iexact H

/-- A window of a vector's own sizes is the vector. -/
theorem window_full {α : Type} {s : Shape} (x : s.Idx → α) (off : Fin s.rank → ℕ) (inb : ∀ a, off a + s.size a ≤ s.size a) :
    window x off s.size inb = x := by
  funext y
  exact congrArg x (Rect.emb_unit_full inb y)

/-- A loop run in order keeps an invariant that each turn advances by one. -/
theorem runs_seqFin (c : Dev nD) (E : Set ℕ) (I : ℕ → sProp 𝕄) : ∀ (n b : ℕ) (f : Fin n → Prog (TpuEff nD τ sig (Elt F) Λ₀ .tc) PUnit)
    (hf : ∀ (k : Fin n) (K : PUnit → sProp 𝕄), iprop(I (b + k.val) ∗ (I (b + k.val + 1) -∗ K ⟨⟩)) ⊢ runs c E (f k) K) (K : PUnit → sProp 𝕄),
    iprop(I b ∗ (I (b + n) -∗ K ⟨⟩)) ⊢ runs c E (seqFin n f) K
  | 0, b, f, hf, K => by
    refine BIBase.Entails.trans ?_ (runs_pure c E _ K)
    iintro ⟨H, Hk⟩
    iapply Hk
    iexact H
  | n + 1, b, f, hf, K => by
    unfold seqFin
    rw [runs_bind]
    have h0 := hf 0
    rw [show b + (0 : Fin (n + 1)).val = b from rfl] at h0
    refine BIBase.Entails.trans ?_ (h0 _)
    iintro ⟨H, Hk⟩
    isplitl [H]; · iexact H
    iintro H
    have ih := runs_seqFin c E I n (b + 1) (fun k => f k.succ) (fun k K => by
      have := hf k.succ K
      rwa [show b + k.succ.val = b + 1 + k.val by simp only [Fin.val_succ]; omega] at this) K
    rw [show b + 1 + n = b + (n + 1) by omega] at ih
    iapply ih
    isplitl [H]; · iexact H
    iexact Hk

/-! ## The blocks -/

/-- Storing a block of rows of a projection. -/
theorem runs_putRows (c : Dev nD) (E : Set ℕ) (t : Fin 8) (val : Vec F S1x1x256 .f32 → FVec F S256x256 .bf16) (b : Memref sig .tc .vmem S1x1x256 .f32)
    (o : Memref sig .tc .vmem S2048x256 .bf16) (ho : o.IsWhole) (xb : Vec F S1x1x256 .f32) (xo : Vec F S2048x256 .bf16) (K : PUnit → sProp 𝕄) :
    iprop(owns (c : Thread nD τ) b fullShare xb ∗ owns (c : Thread nD τ) o fullShare xo
      ∗ (owns (c : Thread nD τ) b fullShare xb ∗ owns (c : Thread nD τ) o fullShare (put xo ![256 * t.val, 0] S256x256.size (val xb)) -∗ K ⟨⟩))
      ⊢ runs c E (putRows t val b o ho) K := by
  unfold putRows
  iintro ⟨Hb, Ho, Hk⟩
  rw [runs_bind]
  iapply (runs_load c E xb)
  isplitl [Hb]; · iexact Hb
  iintro Hb
  rw [show window xb ![0, 0, 0] S1x1x256.size inb_S1x1x256_S1x1x256_0_0_0 = xb from window_full xb _ _]
  rw [runs_bind]
  iapply (runs_load c E xo)
  isplitl [Ho]; · iexact Ho
  iintro Ho
  iapply (runs_store c E xo)
  isplitl [Ho]; · iexact Ho
  iintro Ho
  iapply Hk
  isplitl [Hb]; · iexact Hb
  iexact Ho

/-- Block `t` of the rows of the input. -/
def xrows (x : Vec F S1x2048x1024 .bf16) (t : Fin 8) : Vec F S1x256x1024 .bf16 := window x ![0, 256 * t.val, 0] S1x256x1024.size (inbX t)

/-- One projection block. -/
theorem runs_projBlock (c : Dev nD) (E : Set ℕ) (x : Memref sig .tc .vmem S1x2048x1024 .bf16) (bq bk bv : Memref sig .tc .vmem S1x1x256 .f32)
    (q : Memref sig .tc .vmem S2048x256 .bf16) (hq : q.IsWhole) (k : Memref sig .tc .vmem S2048x256 .bf16) (hk : k.IsWhole)
    (v : Memref sig .tc .vmem S2048x256 .bf16) (hv : v.IsWhole) (wq wk wv : FVec F S1024x256 .bf16) (t : Fin 8)
    (xx : Vec F S1x2048x1024 .bf16) (xbq xbk xbv : Vec F S1x1x256 .f32) (xq xk xv : Vec F S2048x256 .bf16) (K : PUnit → sProp 𝕄) :
    iprop(owns (c : Thread nD τ) x fullShare xx ∗ owns (c : Thread nD τ) bq fullShare xbq ∗ owns (c : Thread nD τ) bk fullShare xbk ∗ owns (c : Thread nD τ) bv fullShare xbv
      ∗ owns (c : Thread nD τ) q fullShare xq ∗ owns (c : Thread nD τ) k fullShare xk ∗ owns (c : Thread nD τ) v fullShare xv
      ∗ (owns (c : Thread nD τ) x fullShare xx ∗ owns (c : Thread nD τ) bq fullShare xbq ∗ owns (c : Thread nD τ) bk fullShare xbk ∗ owns (c : Thread nD τ) bv fullShare xbv
        ∗ owns (c : Thread nD τ) q fullShare (put xq ![256 * t.val, 0] S256x256.size (qVal (xrows xx t) wq xbq))
        ∗ owns (c : Thread nD τ) k fullShare (put xk ![256 * t.val, 0] S256x256.size (kvVal (xrows xx t) wk xbk))
        ∗ owns (c : Thread nD τ) v fullShare (put xv ![256 * t.val, 0] S256x256.size (kvVal (xrows xx t) wv xbv)) -∗ K ⟨⟩))
      ⊢ runs c E (projBlock x bq bk bv q hq k hk v hv wq wk wv t) K := by
  unfold projBlock
  iintro ⟨Hx, Hbq, Hbk, Hbv, Hq, Hk, Hv, HK⟩
  rw [runs_bind]
  iapply (runs_load c E xx)
  isplitl [Hx]; · iexact Hx
  iintro Hx
  rw [runs_bind]
  iapply (runs_putRows c E t _ bq q hq xbq xq)
  isplitl [Hbq]; · iexact Hbq
  isplitl [Hq]; · iexact Hq
  iintro ⟨Hbq, Hq⟩
  rw [runs_bind]
  iapply (runs_putRows c E t _ bk k hk xbk xk)
  isplitl [Hbk]; · iexact Hbk
  isplitl [Hk]; · iexact Hk
  iintro ⟨Hbk, Hk⟩
  iapply (runs_putRows c E t _ bv v hv xbv xv)
  isplitl [Hbv]; · iexact Hbv
  isplitl [Hv]; · iexact Hv
  iintro ⟨Hbv, Hv⟩
  iapply HK
  isplitl [Hx]; · iexact Hx
  isplitl [Hbq]; · iexact Hbq
  isplitl [Hbk]; · iexact Hbk
  isplitl [Hbv]; · iexact Hbv
  isplitl [Hq]; · iexact Hq
  isplitl [Hk]; · iexact Hk
  iexact Hv

/-- What the first `n` spans of 512 keys give. -/
def spansVal (k v : Vec F S2048x256 .bf16) (h : Fin 4) (q : Vec F S256x64 .bf16) : (n : Nat) → n ≤ 4 → Option (FVec F S256x64 .f32 × FVec F S256x1 .f32)
  | 0, _ => none
  | n + 1, hn => some (addPart (spansVal k v h q n (Nat.le_of_succ_le hn))
      (part512 (wt512 q (window k ![512 * n, 64 * h.val] S512x64.size (inbH2 ⟨n, hn⟩ h))) (window v ![512 * n, 64 * h.val] S512x64.size (inbH2 ⟨n, hn⟩ h))))

/-- A block of 256 rows of one head. -/
def hrows (k : Vec F S2048x256 .bf16) (h : Fin 4) (t : Fin 8) : Vec F S256x64 .bf16 := window k ![256 * t.val, 64 * h.val] S256x64.size (inbH t h)

/-- What the keys before the query block's own give. -/
def beforeVal (k v : Vec F S2048x256 .bf16) (h : Fin 4) (t : Fin 8) (q : Vec F S256x64 .bf16) : Option (FVec F S256x64 .f32 × FVec F S256x1 .f32) :=
  if t.val % 2 = 1 then
    some (addPart (spansVal k v h q (t.val / 2) (by omega)) (part256 (wt256 q (hrows k h ⟨t.val - 1, by omega⟩)) (hrows v h ⟨t.val - 1, by omega⟩)))
  else spansVal k v h q (t.val / 2) (by omega)

/-- What an attention block stores. -/
def attVal (q k v : Vec F S2048x256 .bf16) (h : Fin 4) (t : Fin 8) : FVec F S1x256x64 .bf16 :=
  normVal (addPart (beforeVal k v h t (hrows q h t)) (part256 (wtDiag (hrows q h t) (hrows k h t)) (hrows v h t)))

/-- The spans of 512 keys. -/
theorem runs_spans (c : Dev nD) (E : Set ℕ) (k v : Memref sig .tc .vmem S2048x256 .bf16) (h : Fin 4) (q : Vec F S256x64 .bf16) (xk xv : Vec F S2048x256 .bf16) :
    ∀ (n : ℕ) (hn : n ≤ 4) (K : _ → sProp 𝕄),
    iprop(owns (c : Thread nD τ) k fullShare xk ∗ owns (c : Thread nD τ) v fullShare xv
      ∗ (owns (c : Thread nD τ) k fullShare xk ∗ owns (c : Thread nD τ) v fullShare xv -∗ K (spansVal xk xv h q n hn)))
      ⊢ runs c E (spans k v h q n hn) K
  | 0, hn, K => by
    unfold spansVal
    refine BIBase.Entails.trans ?_ (runs_pure c E _ K)
    iintro ⟨Hk, Hv, HK⟩
    iapply HK
    isplitl [Hk]; · iexact Hk
    iexact Hv
  | n + 1, hn, K => by
    unfold spans spansVal
    iintro ⟨Hk, Hv, HK⟩
    rw [runs_bind]
    iapply (runs_spans c E k v h q xk xv n (Nat.le_of_succ_le hn))
    isplitl [Hk]; · iexact Hk
    isplitl [Hv]; · iexact Hv
    iintro ⟨Hk, Hv⟩
    rw [runs_bind]
    iapply (runs_load c E xk)
    isplitl [Hk]; · iexact Hk
    iintro Hk
    rw [runs_bind]
    iapply (runs_load c E xv)
    isplitl [Hv]; · iexact Hv
    iintro Hv
    iapply (runs_pure c E)
    iapply HK
    isplitl [Hk]; · iexact Hk
    iexact Hv

/-- One span of 256 keys. -/
theorem runs_span (c : Dev nD) (E : Set ℕ) (k v : Memref sig .tc .vmem S2048x256 .bf16) (h : Fin 4) (wt : Vec F S256x64 .bf16 → FVec F S256x256 .f32) (t : Fin 8)
    (o : Option (FVec F S256x64 .f32 × FVec F S256x1 .f32)) (xk xv : Vec F S2048x256 .bf16) (K : _ → sProp 𝕄) :
    iprop(owns (c : Thread nD τ) k fullShare xk ∗ owns (c : Thread nD τ) v fullShare xv
      ∗ (owns (c : Thread nD τ) k fullShare xk ∗ owns (c : Thread nD τ) v fullShare xv -∗ K (addPart o (part256 (wt (hrows xk h t)) (hrows xv h t)))))
      ⊢ runs c E (span k v h wt t o) K := by
  unfold span hrows
  iintro ⟨Hk, Hv, HK⟩
  rw [runs_bind]
  iapply (runs_load c E xk)
  isplitl [Hk]; · iexact Hk
  iintro Hk
  rw [runs_bind]
  iapply (runs_load c E xv)
  isplitl [Hv]; · iexact Hv
  iintro Hv
  iapply (runs_pure c E)
  iapply HK
  isplitl [Hk]; · iexact Hk
  iexact Hv

/-- The keys before the query block's own. -/
theorem runs_before (c : Dev nD) (E : Set ℕ) (k v : Memref sig .tc .vmem S2048x256 .bf16) (h : Fin 4) (t : Fin 8) (q : Vec F S256x64 .bf16)
    (xk xv : Vec F S2048x256 .bf16) (K : _ → sProp 𝕄) :
    iprop(owns (c : Thread nD τ) k fullShare xk ∗ owns (c : Thread nD τ) v fullShare xv
      ∗ (owns (c : Thread nD τ) k fullShare xk ∗ owns (c : Thread nD τ) v fullShare xv -∗ K (beforeVal xk xv h t q)))
      ⊢ runs c E (before k v h t q) K := by
  unfold before beforeVal
  iintro ⟨Hk, Hv, HK⟩
  rw [runs_bind]
  iapply (runs_spans c E k v h q xk xv _ _)
  isplitl [Hk]; · iexact Hk
  isplitl [Hv]; · iexact Hv
  iintro ⟨Hk, Hv⟩
  by_cases ht : t.val % 2 = 1
  · rw [if_pos ht, if_pos ht, runs_bind]
    iapply (runs_span c E k v h _ _ _ xk xv)
    isplitl [Hk]; · iexact Hk
    isplitl [Hv]; · iexact Hv
    iintro ⟨Hk, Hv⟩
    iapply (runs_pure c E)
    iapply HK
    isplitl [Hk]; · iexact Hk
    iexact Hv
  · rw [if_neg ht, if_neg ht]
    iapply (runs_pure c E)
    iapply HK
    isplitl [Hk]; · iexact Hk
    iexact Hv

/-- One attention block. -/
theorem runs_attBlock (c : Dev nD) (E : Set ℕ) (i : grid0.Coords) (q k v : Memref sig .tc .vmem S2048x256 .bf16) (a : Memref sig .tc .vmem S4x2048x256 .bf16) (ha : a.IsWhole)
    (h : Fin 4) (t : Fin 8) (xq xk xv : Vec F S2048x256 .bf16) (xa : Vec F S4x2048x256 .bf16) (K : PUnit → sProp 𝕄) :
    iprop(owns (c : Thread nD τ) q fullShare xq ∗ owns (c : Thread nD τ) k fullShare xk ∗ owns (c : Thread nD τ) v fullShare xv ∗ owns (c : Thread nD τ) a fullShare xa
      ∗ (owns (c : Thread nD τ) q fullShare xq ∗ owns (c : Thread nD τ) k fullShare xk ∗ owns (c : Thread nD τ) v fullShare xv
        ∗ owns (c : Thread nD τ) a fullShare (put xa (attOff i h t) S1x256x64.size (attVal xq xk xv h t)) -∗ K ⟨⟩))
      ⊢ runs c E (attBlock i q k v a ha h t) K := by
  unfold attBlock
  iintro ⟨Hq, Hk, Hv, Ha, HK⟩
  rw [runs_bind]
  iapply (runs_load c E xq)
  isplitl [Hq]; · iexact Hq
  iintro Hq
  rw [runs_bind]
  iapply (runs_before c E k v h t _ xk xv)
  isplitl [Hk]; · iexact Hk
  isplitl [Hv]; · iexact Hv
  iintro ⟨Hk, Hv⟩
  rw [runs_bind]
  iapply (runs_span c E k v h _ t _ xk xv)
  isplitl [Hk]; · iexact Hk
  isplitl [Hv]; · iexact Hv
  iintro ⟨Hk, Hv⟩
  rw [runs_bind]
  iapply (runs_load c E xa)
  isplitl [Ha]; · iexact Ha
  iintro Ha
  iapply (runs_store c E xa)
  isplitl [Ha]; · iexact Ha
  iintro Ha
  iapply HK
  isplitl [Hq]; · iexact Hq
  isplitl [Hk]; · iexact Hk
  isplitl [Hv]; · iexact Hv
  iexact Ha

/-- One head group's term of output block `t`. -/
def termVal (a : Vec F S4x2048x256 .bf16) (w : Vec F S4x256x1024 .f32) (t : Fin 8) (g : Fin 4) : FVec F S256x1024 .f32 :=
  outMul (window a ![g.val, 256 * t.val, 0] S1x256x256.size (inbG g t)) (window w ![g.val, 0, 0] S1x256x1024.size (inbW g))

/-- What an output block stores. -/
def outVal (a : Vec F S4x2048x256 .bf16) (w : Vec F S4x256x1024 .f32) (b : Vec F S1x1024 .f32) (t : Fin 8) : FVec F S1x256x1024 .f32 :=
  shapeCast S1x256x1024 (addf (addf (addf (addf (outBias b) (termVal a w t 0)) (termVal a w t 1)) (termVal a w t 2)) (termVal a w t 3)) shapeCasts_S256x1024_S1x256x1024

/-- One head group's term. -/
theorem runs_outTerm (c : Dev nD) (E : Set ℕ) (a : Memref sig .tc .vmem S4x2048x256 .bf16) (w : Memref sig .tc .vmem S4x256x1024 .f32) (t : Fin 8) (g : Fin 4)
    (acc : FVec F S256x1024 .f32) (xa : Vec F S4x2048x256 .bf16) (xw : Vec F S4x256x1024 .f32) (K : _ → sProp 𝕄) :
    iprop(owns (c : Thread nD τ) a fullShare xa ∗ owns (c : Thread nD τ) w fullShare xw
      ∗ (owns (c : Thread nD τ) a fullShare xa ∗ owns (c : Thread nD τ) w fullShare xw -∗ K (addf acc (termVal xa xw t g))))
      ⊢ runs c E (outTerm a w t g acc) K := by
  unfold outTerm termVal
  iintro ⟨Ha, Hw, HK⟩
  rw [runs_bind]
  iapply (runs_load c E xa)
  isplitl [Ha]; · iexact Ha
  iintro Ha
  rw [runs_bind]
  iapply (runs_load c E xw)
  isplitl [Hw]; · iexact Hw
  iintro Hw
  iapply (runs_pure c E)
  iapply HK
  isplitl [Ha]; · iexact Ha
  iexact Hw

/-- One output block. -/
theorem runs_outBlock (c : Dev nD) (E : Set ℕ) (a : Memref sig .tc .vmem S4x2048x256 .bf16) (w : Memref sig .tc .vmem S4x256x1024 .f32) (b : Memref sig .tc .vmem S1x1024 .f32)
    (o : Memref sig .tc .vmem S1x2048x1024 .f32) (t : Fin 8) (xa : Vec F S4x2048x256 .bf16) (xw : Vec F S4x256x1024 .f32) (xb : Vec F S1x1024 .f32)
    (xo : Vec F S1x2048x1024 .f32) (K : PUnit → sProp 𝕄) :
    iprop(owns (c : Thread nD τ) a fullShare xa ∗ owns (c : Thread nD τ) w fullShare xw ∗ owns (c : Thread nD τ) b fullShare xb ∗ owns (c : Thread nD τ) o fullShare xo
      ∗ (owns (c : Thread nD τ) a fullShare xa ∗ owns (c : Thread nD τ) w fullShare xw ∗ owns (c : Thread nD τ) b fullShare xb
        ∗ owns (c : Thread nD τ) o fullShare (put xo ![0, 256 * t.val, 0] S1x256x1024.size (outVal xa xw xb t)) -∗ K ⟨⟩))
      ⊢ runs c E (outBlock a w b o t) K := by
  unfold outBlock
  iintro ⟨Ha, Hw, Hb, Ho, HK⟩
  rw [runs_bind]
  iapply (runs_load c E xb)
  isplitl [Hb]; · iexact Hb
  iintro Hb
  rw [show window xb ![0, 0] S1x1024.size inb_S1x1024_S1x1024_0_0 = xb from window_full xb _ _]
  rw [runs_bind]
  iapply (runs_outTerm c E a w t 0 _ xa xw)
  isplitl [Ha]; · iexact Ha
  isplitl [Hw]; · iexact Hw
  iintro ⟨Ha, Hw⟩
  rw [runs_bind]
  iapply (runs_outTerm c E a w t 1 _ xa xw)
  isplitl [Ha]; · iexact Ha
  isplitl [Hw]; · iexact Hw
  iintro ⟨Ha, Hw⟩
  rw [runs_bind]
  iapply (runs_outTerm c E a w t 2 _ xa xw)
  isplitl [Ha]; · iexact Ha
  isplitl [Hw]; · iexact Hw
  iintro ⟨Ha, Hw⟩
  rw [runs_bind]
  iapply (runs_outTerm c E a w t 3 _ xa xw)
  isplitl [Ha]; · iexact Ha
  isplitl [Hw]; · iexact Hw
  iintro ⟨Ha, Hw⟩
  rw [runs_bind]
  iapply (runs_load c E xo)
  isplitl [Ho]; · iexact Ho
  iintro Ho
  iapply (runs_store c E xo)
  isplitl [Ho]; · iexact Ho
  iintro Ho
  iapply HK
  isplitl [Ha]; · iexact Ha
  isplitl [Hw]; · iexact Hw
  isplitl [Hb]; · iexact Hb
  iexact Ho

end Cert.KernelIdeal.Gen

end
-- ==== Proof.BlocksEq.lean ====
/- The printed kernel function is the program in blocks. -/
module

public import proofs.«01_k».proof.Proof.Blocks

@[expose] public section

set_option maxRecDepth 65536

noncomputable section

namespace Cert.KernelIdeal.Gen

open Idealize.ShloMosaic Idealize.SL.Sem

variable {F : FTy → Type} [FloatOps F] [Named F]

set_option maxHeartbeats 4000000 in
/-- The printed kernel function is the program in blocks. -/
theorem cc0_eq_body (i : grid0.Coords) (arg2 : Memref sig .tc .vmem S1x2048x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S4x256x1024 .f32) (harg9 : arg9.IsWhole) (arg10 : Memref sig .tc .vmem S1x1024 .f32) (harg10 : arg10.IsWhole) (arg11 : Memref sig .tc .vmem S1x2048x1024 .f32) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S4x2048x256 .bf16) (harg15 : arg15.IsWhole) :
    cc0_fused_attn (F := F) i arg2 harg2 arg3 harg3 arg4 harg4 arg5 harg5 arg6 harg6 arg7 harg7 arg8 harg8 arg9 harg9 arg10 harg10 arg11 harg11 arg12 harg12 arg13 harg13 arg14 harg14 arg15 harg15
      = body i arg2 arg3 arg4 arg5 arg6 arg7 arg8 arg9 arg10 arg11 arg12 harg12 arg13 harg13 arg14 harg14 arg15 harg15 := by
  rfl

end Cert.KernelIdeal.Gen

end
-- ==== Proof.BodyRun.lean ====
/- The whole body: what it leaves in the scratches, in the attention scratch and, at the last head
   group, in the output block. -/
module

public import proofs.«01_k».proof.Proof.Triples
public import proofs.«01_k».proof.Proof.BlocksEq

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-! ## Arrays filled block by block -/

/-- The array of 2048 rows whose blocks of 256 rows are `blk`. -/
def tile {α : Type} (blk : Fin 8 → S256x256.Idx → α) : S2048x256.Idx → α := fun j =>
  blk ⟨(j 0).val / 256, by have h : (j 0).val < 2048 := (j 0).isLt; omega⟩ (ix2 ⟨(j 0).val % 256, Nat.mod_lt _ (by norm_num)⟩ (j 1))

/-- The array `x` with its first `n` blocks of rows taken from `X`. -/
def fill {α : Type} (n : ℕ) (x X : S2048x256.Idx → α) : S2048x256.Idx → α := fun j => if (j 0).val < 256 * n then X j else x j

theorem fill_zero {α : Type} (x X : S2048x256.Idx → α) : fill 0 x X = x := by
  funext j; unfold fill; rw [if_neg (by omega)]

theorem fill_all {α : Type} (x X : S2048x256.Idx → α) : fill 8 x X = X := by
  funext j; unfold fill
  have h : (j 0).val < 2048 := (j 0).isLt
  rw [if_pos (by omega)]

/-- Putting block `t` fills one block more. -/
theorem put_fill {α : Type} (t : Fin 8) (x : S2048x256.Idx → α) (blk : Fin 8 → S256x256.Idx → α) :
    put (fill t.val x (tile blk)) ![256 * t.val, 0] S256x256.size (blk t) = fill (t.val + 1) x (tile blk) := by
  funext j
  have h0 : (j 0).val < 2048 := (j 0).isLt
  have h1 : (j 1).val < 256 := (j 1).isLt
  unfold put
  by_cases h : 256 * t.val ≤ (j 0).val ∧ (j 0).val < 256 * t.val + 256
  · have hall : ∀ a : Fin 2, (![256 * t.val, 0] : Fin 2 → ℕ) a ≤ (j a).val ∧ (j a).val < (![256 * t.val, 0] : Fin 2 → ℕ) a + S256x256.size a := by
      intro a; match a with
      | 0 => exact h
      | 1 => exact ⟨Nat.zero_le _, by show (j 1).val < 0 + 256; omega⟩
    rw [dif_pos hall]
    unfold fill
    rw [if_pos (by omega)]
    unfold tile
    have e : (⟨(j 0).val / 256, by omega⟩ : Fin 8) = t := Fin.ext (by show (j 0).val / 256 = t.val; omega)
    rw [e]
    refine congrArg (blk t) (funext fun a => ?_)
    match a with
    | 0 => exact Fin.ext (by show (j 0).val - 256 * t.val = (j 0).val % 256; omega)
    | 1 => exact Fin.ext (by show (j 1).val - 0 = (j 1).val; omega)
  · rw [dif_neg fun hall => h (hall 0)]
    unfold fill
    by_cases hb : (j 0).val < 256 * t.val
    · rw [if_pos hb, if_pos (by omega)]
    · rw [if_neg hb, if_neg (by omega)]

/-- The output array of 2048 rows whose blocks of 256 rows are `blk`. -/
def tileO {α : Type} (blk : Fin 8 → S1x256x1024.Idx → α) : S1x2048x1024.Idx → α := fun j =>
  blk ⟨(j 1).val / 256, by have h : (j 1).val < 2048 := (j 1).isLt; omega⟩ (ix3 0 ⟨(j 1).val % 256, Nat.mod_lt _ (by norm_num)⟩ (j 2))

/-- The output array `x` with its first `n` blocks of rows taken from `X`. -/
def fillO {α : Type} (n : ℕ) (x X : S1x2048x1024.Idx → α) : S1x2048x1024.Idx → α := fun j => if (j 1).val < 256 * n then X j else x j

theorem fillO_zero {α : Type} (x X : S1x2048x1024.Idx → α) : fillO 0 x X = x := by
  funext j; unfold fillO; rw [if_neg (by omega)]

theorem fillO_all {α : Type} (x X : S1x2048x1024.Idx → α) : fillO 8 x X = X := by
  funext j; unfold fillO
  have h : (j 1).val < 2048 := (j 1).isLt
  rw [if_pos (by omega)]

/-- Putting output block `t` fills one block more. -/
theorem put_fillO {α : Type} (t : Fin 8) (x : S1x2048x1024.Idx → α) (blk : Fin 8 → S1x256x1024.Idx → α) :
    put (fillO t.val x (tileO blk)) ![0, 256 * t.val, 0] S1x256x1024.size (blk t) = fillO (t.val + 1) x (tileO blk) := by
  funext j
  have h0 : (j 0).val < 1 := (j 0).isLt
  have h1 : (j 1).val < 2048 := (j 1).isLt
  have h2 : (j 2).val < 1024 := (j 2).isLt
  unfold put
  by_cases h : 256 * t.val ≤ (j 1).val ∧ (j 1).val < 256 * t.val + 256
  · have hall : ∀ a : Fin 3, (![0, 256 * t.val, 0] : Fin 3 → ℕ) a ≤ (j a).val ∧ (j a).val < (![0, 256 * t.val, 0] : Fin 3 → ℕ) a + S1x256x1024.size a := by
      intro a; match a with
      | 0 => exact ⟨Nat.zero_le _, by show (j 0).val < 0 + 1; omega⟩
      | 1 => exact h
      | 2 => exact ⟨Nat.zero_le _, by show (j 2).val < 0 + 1024; omega⟩
    rw [dif_pos hall]
    unfold fillO
    rw [if_pos (by omega)]
    unfold tileO
    have e : (⟨(j 1).val / 256, by omega⟩ : Fin 8) = t := Fin.ext (by show (j 1).val / 256 = t.val; omega)
    rw [e]
    refine congrArg (blk t) (funext fun a => ?_)
    match a with
    | 0 => exact Fin.ext (by show (j 0).val - 0 = 0; omega)
    | 1 => exact Fin.ext (by show (j 1).val - 256 * t.val = (j 1).val % 256; omega)
    | 2 => exact Fin.ext (by show (j 2).val - 0 = (j 2).val; omega)
  · rw [dif_neg fun hall => h (hall 1)]
    unfold fillO
    by_cases hb : (j 1).val < 256 * t.val
    · rw [if_pos hb, if_pos (by omega)]
    · rw [if_neg hb, if_neg (by omega)]

/-- One head group's attention array: its blocks by head and query block. -/
def tileA {α : Type} (blk : Fin 4 → Fin 8 → S1x256x64.Idx → α) : S2048x256.Idx → α := fun j =>
  blk ⟨(j 1).val / 64, by have h : (j 1).val < 256 := (j 1).isLt; omega⟩ ⟨(j 0).val / 256, by have h : (j 0).val < 2048 := (j 0).isLt; omega⟩
    (ix3 0 ⟨(j 0).val % 256, Nat.mod_lt _ (by norm_num)⟩ ⟨(j 1).val % 64, Nat.mod_lt _ (by norm_num)⟩)

/-- The attention scratch `x` with the first `n` blocks of head group `g` taken from `X`. -/
def fillA {α : Type} (g n : ℕ) (x : S4x2048x256.Idx → α) (X : S2048x256.Idx → α) : S4x2048x256.Idx → α := fun j =>
  if (j 0).val = g ∧ 8 * ((j 2).val / 64) + (j 1).val / 256 < n then X (ix2 (j 1) (j 2)) else x j

/-- The attention scratch `x` with head group `g` replaced by `X`. -/
def setA {α : Type} (g : ℕ) (x : S4x2048x256.Idx → α) (X : S2048x256.Idx → α) : S4x2048x256.Idx → α := fun j =>
  if (j 0).val = g then X (ix2 (j 1) (j 2)) else x j

theorem fillA_zero {α : Type} (g : ℕ) (x : S4x2048x256.Idx → α) (X : S2048x256.Idx → α) : fillA g 0 x X = x := by
  funext j; unfold fillA; rw [if_neg (by omega)]

theorem fillA_all {α : Type} (g : ℕ) (x : S4x2048x256.Idx → α) (X : S2048x256.Idx → α) : fillA g 32 x X = setA g x X := by
  funext j; unfold fillA setA
  have h1 : (j 1).val < 2048 := (j 1).isLt
  have h2 : (j 2).val < 256 := (j 2).isLt
  by_cases h : (j 0).val = g
  · rw [if_pos h, if_pos ⟨h, by omega⟩]
  · rw [if_neg h, if_neg fun h' => h h'.1]

/-- Putting the block of head `h`, query block `t` fills one block more. -/
theorem put_fillA {α : Type} (g : ℕ) (h : Fin 4) (t : Fin 8) (x : S4x2048x256.Idx → α) (blk : Fin 4 → Fin 8 → S1x256x64.Idx → α) :
    put (fillA g (8 * h.val + t.val) x (tileA blk)) ![g, 256 * t.val, 64 * h.val] S1x256x64.size (blk h t) = fillA g (8 * h.val + t.val + 1) x (tileA blk) := by
  funext j
  have h1 : (j 1).val < 2048 := (j 1).isLt
  have h2 : (j 2).val < 256 := (j 2).isLt
  have ht := t.isLt
  have hh := h.isLt
  unfold put
  by_cases hj : (j 0).val = g ∧ (j 1).val / 256 = t.val ∧ (j 2).val / 64 = h.val
  · obtain ⟨e0, e1, e2⟩ := hj
    have hall : ∀ a : Fin 3, (![g, 256 * t.val, 64 * h.val] : Fin 3 → ℕ) a ≤ (j a).val ∧ (j a).val < (![g, 256 * t.val, 64 * h.val] : Fin 3 → ℕ) a + S1x256x64.size a := by
      intro a; match a with
      | 0 => exact ⟨by show g ≤ (j 0).val; omega, by show (j 0).val < g + 1; omega⟩
      | 1 => exact ⟨by show 256 * t.val ≤ (j 1).val; omega, by show (j 1).val < 256 * t.val + 256; omega⟩
      | 2 => exact ⟨by show 64 * h.val ≤ (j 2).val; omega, by show (j 2).val < 64 * h.val + 64; omega⟩
    rw [dif_pos hall]
    unfold fillA
    rw [if_pos ⟨e0, by omega⟩]
    unfold tileA
    have e : (⟨(j 1).val / 256, by omega⟩ : Fin 8) = t := Fin.ext e1
    have e' : (⟨(j 2).val / 64, by omega⟩ : Fin 4) = h := Fin.ext e2
    show blk h t _ = blk ⟨(j 2).val / 64, by omega⟩ ⟨(j 1).val / 256, by omega⟩
      (ix3 0 ⟨(j 1).val % 256, Nat.mod_lt _ (by norm_num)⟩ ⟨(j 2).val % 64, Nat.mod_lt _ (by norm_num)⟩)
    rw [e, e']
    refine congrArg (blk h t) (funext fun a => ?_)
    match a with
    | 0 => exact Fin.ext (by show (j 0).val - g = 0; omega)
    | 1 => exact Fin.ext (by show (j 1).val - 256 * t.val = (j 1).val % 256; omega)
    | 2 => exact Fin.ext (by show (j 2).val - 64 * h.val = (j 2).val % 64; omega)
  · have hn : ¬ ∀ a : Fin 3, (![g, 256 * t.val, 64 * h.val] : Fin 3 → ℕ) a ≤ (j a).val ∧ (j a).val < (![g, 256 * t.val, 64 * h.val] : Fin 3 → ℕ) a + S1x256x64.size a := fun hall => by
      have a0 : g ≤ (j 0).val ∧ (j 0).val < g + 1 := hall 0
      have a1 : 256 * t.val ≤ (j 1).val ∧ (j 1).val < 256 * t.val + 256 := hall 1
      have a2 : 64 * h.val ≤ (j 2).val ∧ (j 2).val < 64 * h.val + 64 := hall 2
      exact hj ⟨by omega, by omega, by omega⟩
    rw [dif_neg hn]
    unfold fillA
    by_cases hb : (j 0).val = g ∧ 8 * ((j 2).val / 64) + (j 1).val / 256 < 8 * h.val + t.val
    · rw [if_pos hb, if_pos ⟨hb.1, by omega⟩]
    · rw [if_neg hb, if_neg fun h' => hb ⟨h'.1, by have := h'.1; have := h'.2; omega⟩]

/-! ## What the body computes -/

/-- The scaled queries of one head group. -/
def qArr (x : Vec F S1x2048x1024 .bf16) (w : Vec F S1024x256 .f32) (b : Vec F S1x1x256 .f32) : Vec F S2048x256 .bf16 :=
  tile fun t => qVal (xrows x t) (truncf .bf16 w bitsLt_bf16_f32) b

/-- The keys or values of one head group. -/
def kvArr (x : Vec F S1x2048x1024 .bf16) (w : Vec F S1024x256 .f32) (b : Vec F S1x1x256 .f32) : Vec F S2048x256 .bf16 :=
  tile fun t => kvVal (xrows x t) (truncf .bf16 w bitsLt_bf16_f32) b

/-- The attention of one head group. -/
def attArr (q k v : Vec F S2048x256 .bf16) : Vec F S2048x256 .bf16 := tileA fun h t => attVal q k v h t

/-- The output of one batch member from the attention of all head groups. -/
def outArr (a : Vec F S4x2048x256 .bf16) (w : Vec F S4x256x1024 .f32) (b : Vec F S1x1024 .f32) : Vec F S1x2048x1024 .f32 :=
  tileO fun t => outVal a w b t

/-- All projection blocks. -/
theorem runs_projs (c : Dev nD) (E : Set ℕ) (x : Memref sig .tc .vmem S1x2048x1024 .bf16) (bq bk bv : Memref sig .tc .vmem S1x1x256 .f32)
    (q : Memref sig .tc .vmem S2048x256 .bf16) (hq : q.IsWhole) (k : Memref sig .tc .vmem S2048x256 .bf16) (hk : k.IsWhole)
    (v : Memref sig .tc .vmem S2048x256 .bf16) (hv : v.IsWhole) (wq wk wv : Vec F S1024x256 .f32)
    (xx : Vec F S1x2048x1024 .bf16) (xbq xbk xbv : Vec F S1x1x256 .f32) (xq xk xv : Vec F S2048x256 .bf16) (K : PUnit → sProp 𝕄) :
    iprop((owns (c : Thread nD τ) x fullShare xx ∗ owns (c : Thread nD τ) bq fullShare xbq ∗ owns (c : Thread nD τ) bk fullShare xbk ∗ owns (c : Thread nD τ) bv fullShare xbv
      ∗ owns (c : Thread nD τ) q fullShare xq ∗ owns (c : Thread nD τ) k fullShare xk ∗ owns (c : Thread nD τ) v fullShare xv)
      ∗ ((owns (c : Thread nD τ) x fullShare xx ∗ owns (c : Thread nD τ) bq fullShare xbq ∗ owns (c : Thread nD τ) bk fullShare xbk ∗ owns (c : Thread nD τ) bv fullShare xbv
        ∗ owns (c : Thread nD τ) q fullShare (qArr xx wq xbq) ∗ owns (c : Thread nD τ) k fullShare (kvArr xx wk xbk) ∗ owns (c : Thread nD τ) v fullShare (kvArr xx wv xbv)) -∗ K ⟨⟩))
      ⊢ runs c E (seqFin 8 (projBlock x bq bk bv q hq k hk v hv (truncf .bf16 wq bitsLt_bf16_f32) (truncf .bf16 wk bitsLt_bf16_f32) (truncf .bf16 wv bitsLt_bf16_f32))) K := by
  have H := runs_seqFin c E (fun n => iprop(owns (c : Thread nD τ) x fullShare xx ∗ owns (c : Thread nD τ) bq fullShare xbq ∗ owns (c : Thread nD τ) bk fullShare xbk ∗ owns (c : Thread nD τ) bv fullShare xbv
      ∗ owns (c : Thread nD τ) q fullShare (fill n xq (qArr xx wq xbq)) ∗ owns (c : Thread nD τ) k fullShare (fill n xk (kvArr xx wk xbk))
      ∗ owns (c : Thread nD τ) v fullShare (fill n xv (kvArr xx wv xbv)))) 8 0
    (projBlock x bq bk bv q hq k hk v hv (truncf .bf16 wq bitsLt_bf16_f32) (truncf .bf16 wk bitsLt_bf16_f32) (truncf .bf16 wv bitsLt_bf16_f32)) (fun t K => by
      have hb := runs_projBlock c E x bq bk bv q hq k hk v hv (truncf .bf16 wq bitsLt_bf16_f32) (truncf .bf16 wk bitsLt_bf16_f32) (truncf .bf16 wv bitsLt_bf16_f32) t
        xx xbq xbk xbv (fill t.val xq (qArr xx wq xbq)) (fill t.val xk (kvArr xx wk xbk)) (fill t.val xv (kvArr xx wv xbv)) K
      simp only [Nat.zero_add]
      refine BIBase.Entails.trans ?_ hb
      have e1 := put_fill t xq (fun t => qVal (xrows xx t) (truncf .bf16 wq bitsLt_bf16_f32) xbq)
      have e2 := put_fill t xk (fun t => kvVal (xrows xx t) (truncf .bf16 wk bitsLt_bf16_f32) xbk)
      have e3 := put_fill t xv (fun t => kvVal (xrows xx t) (truncf .bf16 wv bitsLt_bf16_f32) xbv)
      unfold qArr kvArr
      rw [e1, e2, e3]
      iintro ⟨⟨Hx, Hbq, Hbk, Hbv, Hq, Hk, Hv⟩, HK⟩
      isplitl [Hx]; · iexact Hx
      isplitl [Hbq]; · iexact Hbq
      isplitl [Hbk]; · iexact Hbk
      isplitl [Hbv]; · iexact Hbv
      isplitl [Hq]; · iexact Hq
      isplitl [Hk]; · iexact Hk
      isplitl [Hv]; · iexact Hv
      iexact HK) K
  simpa only [fill_zero, fill_all, Nat.zero_add] using H

/-- All attention blocks. -/
theorem runs_atts (c : Dev nD) (E : Set ℕ) (i : grid0.Coords) (q k v : Memref sig .tc .vmem S2048x256 .bf16) (a : Memref sig .tc .vmem S4x2048x256 .bf16) (ha : a.IsWhole)
    (xq xk xv : Vec F S2048x256 .bf16) (xa : Vec F S4x2048x256 .bf16) (K : PUnit → sProp 𝕄) :
    iprop((owns (c : Thread nD τ) q fullShare xq ∗ owns (c : Thread nD τ) k fullShare xk ∗ owns (c : Thread nD τ) v fullShare xv ∗ owns (c : Thread nD τ) a fullShare xa)
      ∗ ((owns (c : Thread nD τ) q fullShare xq ∗ owns (c : Thread nD τ) k fullShare xk ∗ owns (c : Thread nD τ) v fullShare xv
        ∗ owns (c : Thread nD τ) a fullShare (setA (i 1).val xa (attArr xq xk xv))) -∗ K ⟨⟩))
      ⊢ runs c E (seqFin 4 fun h => seqFin 8 fun t => attBlock i q k v a ha h t) K := by
  have H := runs_seqFin c E (fun n => iprop(owns (c : Thread nD τ) q fullShare xq ∗ owns (c : Thread nD τ) k fullShare xk ∗ owns (c : Thread nD τ) v fullShare xv
      ∗ owns (c : Thread nD τ) a fullShare (fillA (i 1).val (8 * n) xa (attArr xq xk xv)))) 4 0
    (fun h => seqFin 8 fun t => attBlock i q k v a ha h t) (fun h K => by
      have Hi := runs_seqFin c E (fun n => iprop(owns (c : Thread nD τ) q fullShare xq ∗ owns (c : Thread nD τ) k fullShare xk ∗ owns (c : Thread nD τ) v fullShare xv
          ∗ owns (c : Thread nD τ) a fullShare (fillA (i 1).val n xa (attArr xq xk xv)))) 8 (8 * h.val)
        (fun t => attBlock i q k v a ha h t) (fun t K => by
          have hb := runs_attBlock c E i q k v a ha h t xq xk xv (fillA (i 1).val (8 * h.val + t.val) xa (attArr xq xk xv)) K
          refine BIBase.Entails.trans ?_ hb
          have e1 := put_fillA (i 1).val h t xa (fun h t => attVal xq xk xv h t)
          rw [attOff_eq]
          unfold attArr
          rw [e1]
          iintro ⟨⟨Hq, Hk, Hv, Ha⟩, HK⟩
          isplitl [Hq]; · iexact Hq
          isplitl [Hk]; · iexact Hk
          isplitl [Hv]; · iexact Hv
          isplitl [Ha]; · iexact Ha
          iexact HK) K
      simp only [Nat.zero_add]
      rw [show 8 * (h.val + 1) = 8 * h.val + 8 by omega]
      exact Hi) K
  simpa only [fillA_zero, fillA_all, Nat.zero_add, Nat.mul_zero, show 8 * 4 = 32 from rfl] using H

/-- All output blocks. -/
theorem runs_outs (c : Dev nD) (E : Set ℕ) (a : Memref sig .tc .vmem S4x2048x256 .bf16) (w : Memref sig .tc .vmem S4x256x1024 .f32) (b : Memref sig .tc .vmem S1x1024 .f32)
    (o : Memref sig .tc .vmem S1x2048x1024 .f32) (xa : Vec F S4x2048x256 .bf16) (xw : Vec F S4x256x1024 .f32) (xb : Vec F S1x1024 .f32)
    (xo : Vec F S1x2048x1024 .f32) (K : PUnit → sProp 𝕄) :
    iprop((owns (c : Thread nD τ) a fullShare xa ∗ owns (c : Thread nD τ) w fullShare xw ∗ owns (c : Thread nD τ) b fullShare xb ∗ owns (c : Thread nD τ) o fullShare xo)
      ∗ ((owns (c : Thread nD τ) a fullShare xa ∗ owns (c : Thread nD τ) w fullShare xw ∗ owns (c : Thread nD τ) b fullShare xb
        ∗ owns (c : Thread nD τ) o fullShare (outArr xa xw xb)) -∗ K ⟨⟩))
      ⊢ runs c E (seqFin 8 (outBlock a w b o)) K := by
  have H := runs_seqFin c E (fun n => iprop(owns (c : Thread nD τ) a fullShare xa ∗ owns (c : Thread nD τ) w fullShare xw ∗ owns (c : Thread nD τ) b fullShare xb
      ∗ owns (c : Thread nD τ) o fullShare (fillO n xo (outArr xa xw xb)))) 8 0
    (outBlock a w b o) (fun t K => by
      have hb := runs_outBlock c E a w b o t xa xw xb (fillO t.val xo (outArr xa xw xb)) K
      simp only [Nat.zero_add]
      refine BIBase.Entails.trans ?_ hb
      have e1 := put_fillO t xo (fun t => outVal xa xw xb t)
      unfold outArr
      rw [e1]
      iintro ⟨⟨Ha, Hw, Hb, Ho⟩, HK⟩
      isplitl [Ha]; · iexact Ha
      isplitl [Hw]; · iexact Hw
      isplitl [Hb]; · iexact Hb
      isplitl [Ho]; · iexact Ho
      iexact HK) K
  simpa only [fillO_zero, fillO_all, Nat.zero_add] using H

/-- The whole body: the scratches hold the head group's queries, keys and values, the attention
    scratch has that head group replaced, and the output block is written exactly at the last head group. -/
theorem runs_body (c : Dev nD) (E : Set ℕ) (i : grid0.Coords) (arg2 : Memref sig .tc .vmem S1x2048x1024 .bf16) (arg3 arg4 arg5 : Memref sig .tc .vmem S1024x256 .f32) (arg6 arg7 arg8 : Memref sig .tc .vmem S1x1x256 .f32)
    (arg9 : Memref sig .tc .vmem S4x256x1024 .f32) (arg10 : Memref sig .tc .vmem S1x1024 .f32) (arg11 : Memref sig .tc .vmem S1x2048x1024 .f32)
    (arg12 : Memref sig .tc .vmem S2048x256 .bf16) (harg12 : arg12.IsWhole) (arg13 : Memref sig .tc .vmem S2048x256 .bf16) (harg13 : arg13.IsWhole)
    (arg14 : Memref sig .tc .vmem S2048x256 .bf16) (harg14 : arg14.IsWhole) (arg15 : Memref sig .tc .vmem S4x2048x256 .bf16) (harg15 : arg15.IsWhole)
    (x0 : Vec F S1x2048x1024 .bf16) (x1 x2 x3 : Vec F S1024x256 .f32) (x4 x5 x6 : Vec F S1x1x256 .f32) (x7 : Vec F S4x256x1024 .f32) (x8 : Vec F S1x1024 .f32)
    (x9 : Vec F S1x2048x1024 .f32) (xq xk xv : Vec F S2048x256 .bf16) (xa : Vec F S4x2048x256 .bf16)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xq ∗ owns (c : Thread nD τ) arg13 fullShare xk ∗ owns (c : Thread nD τ) arg14 fullShare xv ∗ owns (c : Thread nD τ) arg15 fullShare xa
      ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (if k0_cond1 i = 1#1 then outArr (setA (i 1).val xa (attArr (qArr x0 x1 x4) (kvArr x0 x2 x5) (kvArr x0 x3 x6))) x7 x8 else x9) ∗ owns (c : Thread nD τ) arg12 fullShare (qArr x0 x1 x4) ∗ owns (c : Thread nD τ) arg13 fullShare (kvArr x0 x2 x5) ∗ owns (c : Thread nD τ) arg14 fullShare (kvArr x0 x3 x6) ∗ owns (c : Thread nD τ) arg15 fullShare (setA (i 1).val xa (attArr (qArr x0 x1 x4) (kvArr x0 x2 x5) (kvArr x0 x3 x6)))) -∗ K ⟨⟩))
      ⊢ runs c E (body i arg2 arg3 arg4 arg5 arg6 arg7 arg8 arg9 arg10 arg11 arg12 harg12 arg13 harg13 arg14 harg14 arg15 harg15) K := by
  unfold body
  iintro ⟨H2, H3, H4, H5, H6, H7, H8, H9, H10, H11, H12, H13, H14, H15, HK⟩
  rw [runs_bind]
  iapply (runs_load c E x1)
  isplitl [H3]; · iexact H3
  iintro H3
  rw [show window x1 ![0, 0] S1024x256.size inb_S1024x256_S1024x256_0_0 = x1 from window_full x1 _ _]
  rw [runs_bind]
  iapply (runs_load c E x2)
  isplitl [H4]; · iexact H4
  iintro H4
  rw [show window x2 ![0, 0] S1024x256.size inb_S1024x256_S1024x256_0_0 = x2 from window_full x2 _ _]
  rw [runs_bind]
  iapply (runs_load c E x3)
  isplitl [H5]; · iexact H5
  iintro H5
  rw [show window x3 ![0, 0] S1024x256.size inb_S1024x256_S1024x256_0_0 = x3 from window_full x3 _ _]
  rw [runs_bind]
  iapply (runs_projs c E arg2 arg6 arg7 arg8 arg12 harg12 arg13 harg13 arg14 harg14 x1 x2 x3 x0 x4 x5 x6 xq xk xv)
  isplitl [H2 H6 H7 H8 H12 H13 H14]
  · isplitl [H2]; · iexact H2
    isplitl [H6]; · iexact H6
    isplitl [H7]; · iexact H7
    isplitl [H8]; · iexact H8
    isplitl [H12]; · iexact H12
    isplitl [H13]; · iexact H13
    iexact H14
  iintro ⟨H2, H6, H7, H8, H12, H13, H14⟩
  rw [runs_bind]
  iapply (runs_atts c E i arg12 arg13 arg14 arg15 harg15 (qArr x0 x1 x4) (kvArr x0 x2 x5) (kvArr x0 x3 x6) xa)
  isplitl [H12 H13 H14 H15]
  · isplitl [H12]; · iexact H12
    isplitl [H13]; · iexact H13
    isplitl [H14]; · iexact H14
    iexact H15
  iintro ⟨H12, H13, H14, H15⟩
  by_cases hc : k0_cond1 i = 1#1
  · rw [dif_pos hc, if_pos hc]
    iapply (runs_outs c E arg15 arg9 arg10 arg11 _ x7 x8 x9)
    isplitl [H15 H9 H10 H11]
    · isplitl [H15]; · iexact H15
      isplitl [H9]; · iexact H9
      isplitl [H10]; · iexact H10
      iexact H11
    iintro ⟨H15, H9, H10, H11⟩
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [dif_neg hc, if_neg hc]
    iapply (runs_pure c E)
    iapply HK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Gen

end
-- ==== Proof.AttValue.lean ====
/- The kernel's blocks read at an index, floats as extended reals. -/
module

public import proofs.«01_k».proof.Proof.BodyRun
public import Idealize.ShloMosaic.Lib.Pointwise

@[expose] public section

set_option maxRecDepth 16384

noncomputable section

namespace Cert.KernelIdeal.Gen

open Idealize.ShloMosaic

/-- The value of the named constant. -/
def scale : EReal := ((Real.log 256)⁻¹ : ℝ)

theorem scale_eq : Named.named (F := Ideal) κ "log2e_over_8" (φ := .f32) 0x3E38AA3B#32 = scale := rfl

theorem proj_at (x : Vec Ideal S1x256x1024 .bf16) (w : FVec Ideal S1024x256 .bf16) (b : Vec Ideal S1x1x256 .f32) (i j : Fin 256) :
    proj x w b (ix2 i j) = (∑ k : Fin 1024, x (ix3 0 i k) * w (ix2 k j)) + b (ix3 0 0 j) := by
  pointwise [proj, rows]

theorem kvVal_at (x : Vec Ideal S1x256x1024 .bf16) (w : FVec Ideal S1024x256 .bf16) (b : Vec Ideal S1x1x256 .f32) (i j : Fin 256) :
    kvVal x w b (ix2 i j) = (∑ k : Fin 1024, x (ix3 0 i k) * w (ix2 k j)) + b (ix3 0 0 j) := by
  pointwise [kvVal, proj, rows]

theorem qVal_at (x : Vec Ideal S1x256x1024 .bf16) (w : FVec Ideal S1024x256 .bf16) (b : Vec Ideal S1x1x256 .f32) (i j : Fin 256) :
    qVal x w b (ix2 i j) = ((∑ k : Fin 1024, x (ix3 0 i k) * w (ix2 k j)) + b (ix3 0 0 j)) * scale := by
  pointwise [qVal, proj, rows, scale_eq]

theorem wt512_at (q : Vec Ideal S256x64 .bf16) (k : Vec Ideal S512x64 .bf16) (i : Fin 256) (j : Fin 512) :
    wt512 q k (ix2 i j) = Ideal.exp2 (∑ e : Fin 64, q (ix2 i e) * k (ix2 j e)) := by
  pointwise [wt512]
  rfl

theorem wt256_at (q : Vec Ideal S256x64 .bf16) (k : Vec Ideal S256x64 .bf16) (i : Fin 256) (j : Fin 256) :
    wt256 q k (ix2 i j) = Ideal.exp2 (∑ e : Fin 64, q (ix2 i e) * k (ix2 j e)) := by
  pointwise [wt256]
  rfl

theorem tri_at (i j : Fin 256) : tri (ix2 i j) = if j.val ≤ i.val then 1#1 else 0#1 := by
  pointwise [tri]
  have hi := i.isLt
  have hj := j.isLt
  have e : ∀ n : ℕ, n < 256 → (BitVec.ofNat 32 n).toInt = n := fun n hn => by
    rw [BitVec.toInt_eq_toNat_of_lt (by rw [BitVec.toNat_ofNat]; omega), BitVec.toNat_ofNat, Nat.mod_eq_of_lt (by omega)]
  show BitVec.ofBool ((BitVec.ofNat 32 j.val).sle (BitVec.ofNat 32 i.val)) = _
  rw [BitVec.sle, e _ hi, e _ hj]
  by_cases h : j.val ≤ i.val <;> simp [h]

theorem part512_fst (p : FVec Ideal S256x512 .f32) (v : Vec Ideal S512x64 .bf16) (i : Fin 256) (d : Fin 64) :
    (part512 p v).1 (ix2 i d) = ∑ j : Fin 512, p (ix2 i j) * v (ix2 j d) := by
  pointwise [part512]

theorem part512_snd (p : FVec Ideal S256x512 .f32) (v : Vec Ideal S512x64 .bf16) (i : Fin 256) :
    (part512 p v).2 (ix2 i 0) = ∑ j : Fin 512, p (ix2 i j) := by
  pointwise [part512]

theorem part256_fst (p : FVec Ideal S256x256 .f32) (v : Vec Ideal S256x64 .bf16) (i : Fin 256) (d : Fin 64) :
    (part256 p v).1 (ix2 i d) = ∑ j : Fin 256, p (ix2 i j) * v (ix2 j d) := by
  pointwise [part256]

theorem part256_snd (p : FVec Ideal S256x256 .f32) (v : Vec Ideal S256x64 .bf16) (i : Fin 256) :
    (part256 p v).2 (ix2 i 0) = ∑ j : Fin 256, p (ix2 i j) := by
  pointwise [part256]

theorem normVal_at (a : FVec Ideal S256x64 .f32 × FVec Ideal S256x1 .f32) (i : Fin 256) (d : Fin 64) :
    normVal a (ix3 0 i d) = a.1 (ix2 i d) * Ideal.div 1 (a.2 (ix2 i 0)) := by
  pointwise [normVal]

theorem outMul_at (a : Vec Ideal S1x256x256 .bf16) (w : Vec Ideal S1x256x1024 .f32) (i : Fin 256) (n : Fin 1024) :
    outMul a w (ix2 i n) = ∑ k : Fin 256, a (ix3 0 i k) * w (ix3 0 k n) := by
  pointwise [outMul]

theorem outBias_at (b : Vec Ideal S1x1024 .f32) (i : Fin 256) (n : Fin 1024) : outBias b (ix2 i n) = b (ix2 0 n) := by
  pointwise [outBias]

theorem hrows_at (k : Vec Ideal S2048x256 .bf16) (h : Fin 4) (t : Fin 8) (i : Fin 256) (e : Fin 64) :
    hrows k h t (ix2 i e) = k (ix2 ⟨256 * t.val + i.val, by omega⟩ ⟨64 * h.val + e.val, by omega⟩) := by
  rw [hrows, VecWindow.window_eq_ld]
  pointwise

theorem xrows_at (x : Vec Ideal S1x2048x1024 .bf16) (t : Fin 8) (i : Fin 256) (k : Fin 1024) :
    xrows x t (ix3 0 i k) = x (ix3 0 ⟨256 * t.val + i.val, by omega⟩ k) := by
  rw [xrows, VecWindow.window_eq_ld]
  pointwise

/-! ## One row of one head -/

/-- Row `s` of head `h` at lane `e`, the row number read modulo the number of rows. -/
def lane (k : Vec Ideal S2048x256 .bf16) (h : Fin 4) (s : ℕ) (e : Fin 64) : EReal :=
  k (ix2 ⟨s % 2048, Nat.mod_lt _ (by norm_num)⟩ ⟨64 * h.val + e.val, by omega⟩)

/-- The weight that row `i` of a query block gives to key `s`. -/
def weight (q : Vec Ideal S256x64 .bf16) (k : Vec Ideal S2048x256 .bf16) (h : Fin 4) (i : Fin 256) (s : ℕ) : EReal :=
  Ideal.exp2 (∑ e : Fin 64, q (ix2 i e) * lane k h s e)

theorem hrows_lane (k : Vec Ideal S2048x256 .bf16) (h : Fin 4) (t : Fin 8) (i : Fin 256) (e : Fin 64) :
    hrows k h t (ix2 i e) = lane k h (256 * t.val + i.val) e := by
  rw [hrows_at, lane]
  congr 3
  omega

theorem span_lane (k : Vec Ideal S2048x256 .bf16) (h : Fin 4) (n : Fin 4) (j : Fin 512) (e : Fin 64) :
    VecWindow.window k ![512 * n.val, 64 * h.val] S512x64.size (inbH2 n h) (ix2 j e) = lane k h (512 * n.val + j.val) e := by
  rw [VecWindow.window_eq_ld, lane]
  pointwise
  congr 3
  omega

/-- A pair holds, in row `i`, the weighted sum of the values and the sum of the weights over the first `n` keys. -/
def Holds (q : Vec Ideal S256x64 .bf16) (k v : Vec Ideal S2048x256 .bf16) (h : Fin 4) (i : Fin 256) (n : ℕ)
    (a : Option (FVec Ideal S256x64 .f32 × FVec Ideal S256x1 .f32)) : Prop :=
  (∀ d : Fin 64, (a.elim 0 fun a => a.1 (ix2 i d)) = ∑ s ∈ Finset.range n, weight q k h i s * lane v h s d)
    ∧ (a.elim (0 : EReal) fun a => a.2 (ix2 i 0)) = ∑ s ∈ Finset.range n, weight q k h i s

theorem addPart_fst (a : Option (FVec Ideal S256x64 .f32 × FVec Ideal S256x1 .f32)) (b : FVec Ideal S256x64 .f32 × FVec Ideal S256x1 .f32)
    (i : Fin 256) (d : Fin 64) : (addPart a b).1 (ix2 i d) = (a.elim (0 : EReal) fun a => a.1 (ix2 i d)) + b.1 (ix2 i d) := by
  cases a with
  | none => exact (zero_add _).symm
  | some a => rfl

theorem addPart_snd (a : Option (FVec Ideal S256x64 .f32 × FVec Ideal S256x1 .f32)) (b : FVec Ideal S256x64 .f32 × FVec Ideal S256x1 .f32)
    (i : Fin 256) : (addPart a b).2 (ix2 i 0) = (a.elim (0 : EReal) fun a => a.2 (ix2 i 0)) + b.2 (ix2 i 0) := by
  cases a with
  | none => exact (zero_add _).symm
  | some a => rfl

/-- A pair with the next `l` keys added holds `l` keys more. -/
theorem Holds.add {q : Vec Ideal S256x64 .bf16} {k v : Vec Ideal S2048x256 .bf16} {h : Fin 4} {i : Fin 256} {n : ℕ}
    {a : Option (FVec Ideal S256x64 .f32 × FVec Ideal S256x1 .f32)} (ha : Holds q k v h i n a) (l : ℕ)
    (b : FVec Ideal S256x64 .f32 × FVec Ideal S256x1 .f32)
    (h1 : ∀ d : Fin 64, b.1 (ix2 i d) = ∑ j : Fin l, weight q k h i (n + j.val) * lane v h (n + j.val) d)
    (h2 : b.2 (ix2 i 0) = ∑ j : Fin l, weight q k h i (n + j.val)) : Holds q k v h i (n + l) (some (addPart a b)) := by
  constructor
  · intro d
    show (addPart a b).1 (ix2 i d) = _
    rw [addPart_fst, ha.1, h1, Finset.sum_range_add, Finset.sum_range (fun x => weight q k h i (n + x) * lane v h (n + x) d)]
  · show (addPart a b).2 (ix2 i 0) = _
    rw [addPart_snd, ha.2, h2, Finset.sum_range_add, Finset.sum_range (fun x => weight q k h i (n + x))]

theorem holds_spans (q : Vec Ideal S256x64 .bf16) (k v : Vec Ideal S2048x256 .bf16) (h : Fin 4) (i : Fin 256) :
    ∀ (n : ℕ) (hn : n ≤ 4), Holds q k v h i (512 * n) (spansVal k v h q n hn)
  | 0, _ => ⟨fun d => (Finset.sum_range_zero _).symm, (Finset.sum_range_zero _).symm⟩
  | n + 1, hn => by
    have w : ∀ j : Fin 512, wt512 q (VecWindow.window k ![512 * n, 64 * h.val] S512x64.size (inbH2 ⟨n, hn⟩ h)) (ix2 i j) = weight q k h i (512 * n + j.val) := fun j => by
      rw [wt512_at, weight]
      exact congrArg _ (Finset.sum_congr rfl fun e _ => congrArg _ (span_lane k h ⟨n, hn⟩ j e))
    refine (holds_spans q k v h i n (Nat.le_of_succ_le hn)).add 512 _ (fun d => ?_) ?_
    · rw [part512_fst]
      exact Finset.sum_congr rfl fun j _ => by rw [w, ← span_lane v h ⟨n, hn⟩ j d]
    · rw [part512_snd]
      exact Finset.sum_congr rfl fun j _ => w j

theorem wt256_lane (q : Vec Ideal S256x64 .bf16) (k : Vec Ideal S2048x256 .bf16) (h : Fin 4) (t : Fin 8) (i j : Fin 256) :
    wt256 q (hrows k h t) (ix2 i j) = weight q k h i (256 * t.val + j.val) := by
  rw [wt256_at, weight]
  exact congrArg _ (Finset.sum_congr rfl fun e _ => congrArg _ (hrows_lane k h t j e))

theorem holds_before (q : Vec Ideal S256x64 .bf16) (k v : Vec Ideal S2048x256 .bf16) (h : Fin 4) (t : Fin 8) (i : Fin 256) :
    Holds q k v h i (256 * t.val) (beforeVal k v h t q) := by
  unfold beforeVal
  by_cases ht : t.val % 2 = 1
  · rw [if_pos ht]
    have e : 512 * (t.val / 2) = 256 * (t.val - 1) := by omega
    have hh := holds_spans q k v h i (t.val / 2) (by omega)
    rw [show 256 * t.val = 512 * (t.val / 2) + 256 from by omega]
    refine hh.add 256 _ (fun d => ?_) ?_
    · rw [part256_fst]
      exact Finset.sum_congr rfl fun j _ => by rw [wt256_lane, hrows_lane, e]
    · rw [part256_snd]
      exact Finset.sum_congr rfl fun j _ => by rw [wt256_lane, e]
  · rw [if_neg ht]
    have hh := holds_spans q k v h i (t.val / 2) (by omega)
    rwa [show 512 * (t.val / 2) = 256 * t.val from by omega] at hh

theorem wtDiag_at (q : Vec Ideal S256x64 .bf16) (k : Vec Ideal S256x64 .bf16) (i j : Fin 256) :
    wtDiag q k (ix2 i j) = if j.val ≤ i.val then wt256 q k (ix2 i j) else 0 := by
  show Scalar.select (tri (ix2 i j)) (wt256 q k (ix2 i j)) (Ideal.ofBits .f32 0x00000000#32) = _
  rw [tri_at, Ideal.ofBits_zero_f32]
  by_cases h : j.val ≤ i.val
  · rw [if_pos h, if_pos h]; rfl
  · rw [if_neg h, if_neg h]; rfl

/-- A sum over the keys before the block and the keys of the block up to the query's own is one over all keys up to it. -/
theorem sum_upto (g : ℕ → EReal) (t : Fin 8) (i : Fin 256) :
    (∑ s ∈ Finset.range (256 * t.val), g s) + (∑ j : Fin 256, if j.val ≤ i.val then g (256 * t.val + j.val) else 0)
      = ∑ s : Fin 2048, if s.val ≤ 256 * t.val + i.val then g s.val else 0 := by
  rw [← Finset.sum_range (fun s => if s ≤ 256 * t.val + i.val then g s else 0), ← Finset.sum_range (fun j => if j ≤ i.val then g (256 * t.val + j) else 0),
    show 2048 = 256 * t.val + 256 + (2048 - (256 * t.val + 256)) from by omega, Finset.sum_range_add, Finset.sum_range_add]
  rw [Finset.sum_eq_zero (s := Finset.range (2048 - (256 * t.val + 256))) (fun x _ => if_neg (by omega)), add_zero]
  congr 1
  · exact Finset.sum_congr rfl fun x hx => (if_pos (by have := Finset.mem_range.mp hx; omega)).symm
  · refine Finset.sum_congr rfl fun x _ => ?_
    by_cases h : x ≤ i.val
    · rw [if_pos h, if_pos (by omega)]
    · rw [if_neg h, if_neg (by omega)]

/-- The weight of key `s` for query row `r`, zero for later keys. -/
def masked (q k : Vec Ideal S2048x256 .bf16) (h : Fin 4) (r : Fin 2048) (s : Fin 2048) : EReal :=
  if s.val ≤ r.val then Ideal.exp2 (∑ e : Fin 64, q (ix2 r ⟨64 * h.val + e.val, by omega⟩) * k (ix2 s ⟨64 * h.val + e.val, by omega⟩)) else 0

theorem lane_fin (k : Vec Ideal S2048x256 .bf16) (h : Fin 4) (s : Fin 2048) (e : Fin 64) :
    lane k h s.val e = k (ix2 s ⟨64 * h.val + e.val, by omega⟩) := by
  unfold lane
  congr 2
  exact Fin.ext (Nat.mod_eq_of_lt s.isLt)

theorem weight_masked (q k : Vec Ideal S2048x256 .bf16) (h : Fin 4) (t : Fin 8) (i : Fin 256) (s : Fin 2048) :
    (if s.val ≤ 256 * t.val + i.val then weight (hrows q h t) k h i s.val else 0) = masked q k h ⟨256 * t.val + i.val, by omega⟩ s := by
  unfold masked weight
  refine if_congr Iff.rfl (congrArg _ (Finset.sum_congr rfl fun e _ => ?_)) rfl
  rw [hrows_at, lane_fin]

/-- What an attention block stores in row `i`, lane `d`: the weighted mean of the values. -/
theorem attVal_at (q k v : Vec Ideal S2048x256 .bf16) (h : Fin 4) (t : Fin 8) (i : Fin 256) (d : Fin 64) :
    attVal q k v h t (ix3 0 i d)
      = (∑ s : Fin 2048, masked q k h ⟨256 * t.val + i.val, by omega⟩ s * v (ix2 s ⟨64 * h.val + d.val, by omega⟩))
        * Ideal.div 1 (∑ s : Fin 2048, masked q k h ⟨256 * t.val + i.val, by omega⟩ s) := by
  have H := holds_before (hrows q h t) k v h t i
  have w : ∀ j : Fin 256, wtDiag (hrows q h t) (hrows k h t) (ix2 i j) = if j.val ≤ i.val then weight (hrows q h t) k h i (256 * t.val + j.val) else 0 := fun j => by
    rw [wtDiag_at, wt256_lane]
  rw [attVal, normVal_at, addPart_fst, addPart_snd, H.1, H.2, part256_fst, part256_snd]
  simp only [w, hrows_lane, ite_mul, zero_mul]
  rw [sum_upto (fun s => weight (hrows q h t) k h i s), sum_upto (fun s => weight (hrows q h t) k h i s * lane v h s d)]
  simp only [weight_masked]
  congr 1
  refine Finset.sum_congr rfl fun s _ => ?_
  rw [← weight_masked, ite_mul, zero_mul, lane_fin]

end Cert.KernelIdeal.Gen

end
-- ==== Proof.Run.lean ====
/- The pipeline of the kernel with its values: what each grid point leaves in the attention scratch and in
   the output block, the body obligation, and the run of the whole program. -/
module

public import proofs.«01_k».proof.Proof.BodyRun
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratches hold -/

/-- The weighted values of the four heads computed at point `t`, all rows. -/
def attAt (c : Dev nD) (t : Fin cfg0.N) : Vec F S2048x256 .bf16 :=
  attArr (qArr (iblk m c 0 t) (iblk m c 1 t) (iblk m c 4 t)) (kvArr (iblk m c 0 t) (iblk m c 2 t) (iblk m c 5 t))
    (kvArr (iblk m c 0 t) (iblk m c 3 t) (iblk m c 6 t))

/-- The grid point of number `n` (read modulo the number of points). -/
def pt (n : ℕ) : Fin cfg0.N := ⟨n % 8, lt_of_lt_of_eq (Nat.mod_lt _ (by norm_num)) N_0.symm⟩

/-- The attention scratch of batch `b` once its four points have run. -/
def attOf (c : Dev nD) (b : ℕ) : Vec F S4x2048x256 .bf16 := fun j => attAt m c (pt (4 * b + (j 0).val)) (ix2 (j 1) (j 2))

/-- Before point `n` the groups of heads already computed for the current batch are in the scratch. -/
def Filled (c : Dev nD) (n : ℕ) (a : Vec F S4x2048x256 .bf16) : Prop :=
  ∀ j : S4x2048x256.Idx, (j 0).val < n % 4 → a j = attOf m c (n / 4) j

theorem filled_zero (c : Dev nD) (a : Vec F S4x2048x256 .bf16) : Filled m c 0 a := fun j hj => absurd hj (by simp)

/-- Point `t` puts its own group at its place. -/
theorem setA_at (c : Dev nD) (t : Fin cfg0.N) (a : Vec F S4x2048x256 .bf16) (h : Filled m c t.val a) (j : S4x2048x256.Idx)
    (hj : (j 0).val ≤ t.val % 4) : setA (t.val % 4) a (attAt m c t) j = attOf m c (t.val / 4) j := by
  have hN : t.val < 8 := lt_of_lt_of_eq t.isLt N_0
  unfold setA
  by_cases he : (j 0).val = t.val % 4
  · rw [if_pos he]
    unfold attOf
    rw [show pt (4 * (t.val / 4) + (j 0).val) = t from Fin.ext (by show (4 * (t.val / 4) + (j 0).val) % 8 = t.val; omega)]
  · rw [if_neg he]
    exact h j (by omega)

theorem filled_succ (c : Dev nD) (t : Fin cfg0.N) (a : Vec F S4x2048x256 .bf16) (h : Filled m c t.val a) :
    Filled m c (t.val + 1) (setA (t.val % 4) a (attAt m c t)) := fun j hj => by
  rw [setA_at m c t a h j (by omega), show (t.val + 1) / 4 = t.val / 4 from by omega]

/-- At the last group of a batch the scratch is complete. -/
theorem setA_last (c : Dev nD) (t : Fin cfg0.N) (a : Vec F S4x2048x256 .bf16) (h : Filled m c t.val a) (ht : t.val % 4 = 3) :
    setA (t.val % 4) a (attAt m c t) = attOf m c (t.val / 4) :=
  funext fun j => setA_at m c t a h j (by have h4 : (j 0).val < 4 := (j 0).isLt; omega)

/-- The output block of point `t`'s batch. -/
def outAt (c : Dev nD) (t : Fin cfg0.N) : Vec F S1x2048x1024 .f32 := outArr (attOf m c (t.val / 4)) (iblk m c 7 t) (iblk m c 8 t)

/-! ## The pipeline's data -/

abbrev sq : Memref sig .tc .vmem S2048x256 .bf16 := Memref.whole cc0_scratch0
abbrev sk : Memref sig .tc .vmem S2048x256 .bf16 := Memref.whole cc0_scratch1
abbrev sv : Memref sig .tc .vmem S2048x256 .bf16 := Memref.whole cc0_scratch2
abbrev sa : Memref sig .tc .vmem S4x2048x256 .bf16 := Memref.whole cc0_scratch3

/-- The four scratches and the generator register, the attention scratch as far as it is filled before point `n`. -/
def Inv (c : Dev nD) (n : ℕ) : sProp 𝕄 :=
  iprop((((∃ d, owns (c : Thread nD τ) sq fullShare d) ∗ (∃ d, owns (c : Thread nD τ) sk fullShare d) ∗ (∃ d, owns (c : Thread nD τ) sv fullShare d)
    ∗ (∃ a, ⌜Filled m c n a⌝ ∗ owns (c : Thread nD τ) sa fullShare a)) ∗ (∃ r, prngReg c r)))

theorem free_eq (c : Dev nD) :
    (Pipeline.ΦA spec0 c : sProp 𝕄)
      = iprop(((∃ d, owns (c : Thread nD τ) sq fullShare d) ∗ (∃ d, owns (c : Thread nD τ) sk fullShare d) ∗ (∃ d, owns (c : Thread nD τ) sv fullShare d)
        ∗ (∃ d, owns (c : Thread nD τ) sa fullShare d)) ∗ (∃ r, prngReg c r)) := by
  unfold Pipeline.ΦA; rw [scopedRest0_eq]; simp only [sq, sk, sv, sa, owns_whole]; try rfl

/-- What each point leaves: the inputs' blocks as they were, the output block of the batch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Inv m c t.val
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outAt m c t := by dsimp only [dats]

/-! ## The body at a point -/

/-- The output is written at the last group of heads only. -/
theorem cond_iff : ∀ t : Fin cfg0.N, k0_cond1 (grid0.coords t) = 1#1 ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 3)

theorem group_of (t : Fin cfg0.N) : (grid0.coords t 1).val = t.val % 4 := by
  have e1 : (grid0.coords t 1).val = t.val / 1 % 4 := Pipeline.Grid.coords_val (t : Fin grid0.N) 1 (by decide) rfl
  rw [e1, Nat.div_one]

/-- The nine inputs' staging buffers at their blocks. -/
def inputs (c : Dev nD) (t : Fin cfg0.N) : sProp 𝕄 :=
  iprop(owns (c : Thread nD τ) (win0_0.stage (cfg0.slots t 0)) fullShare (iblk m c 0 t) ∗ owns (c : Thread nD τ) (win0_1.stage (cfg0.slots t 1)) fullShare (iblk m c 1 t)
    ∗ owns (c : Thread nD τ) (win0_2.stage (cfg0.slots t 2)) fullShare (iblk m c 2 t) ∗ owns (c : Thread nD τ) (win0_3.stage (cfg0.slots t 3)) fullShare (iblk m c 3 t)
    ∗ owns (c : Thread nD τ) (win0_4.stage (cfg0.slots t 4)) fullShare (iblk m c 4 t) ∗ owns (c : Thread nD τ) (win0_5.stage (cfg0.slots t 5)) fullShare (iblk m c 5 t)
    ∗ owns (c : Thread nD τ) (win0_6.stage (cfg0.slots t 6)) fullShare (iblk m c 6 t) ∗ owns (c : Thread nD τ) (win0_7.stage (cfg0.slots t 7)) fullShare (iblk m c 7 t)
    ∗ owns (c : Thread nD τ) (win0_8.stage (cfg0.slots t 8)) fullShare (iblk m c 8 t))

/-- The body at point `t`, from the inputs at their blocks, the output buffer at anything and the invariant. -/
theorem sound_at (c : Dev nD) (t : Fin cfg0.N) (x9 : Vec F S1x2048x1024 .f32) (K : PUnit → sProp 𝕄) :
    iprop(inputs m c t ∗ owns (c : Thread nD τ) (win0_9.stage (cfg0.slots t 9)) fullShare x9 ∗ Inv m c t.val
      ∗ ((inputs m c t ∗ owns (c : Thread nD τ) (win0_9.stage (cfg0.slots t 9)) fullShare (if t.val % 4 = 3 then outAt m c t else x9) ∗ Inv m c (t.val + 1)) -∗ K ⟨⟩))
      ⊢ runs c Set.univ (bodyAt0 t) K := by
  unfold inputs bodyAt0
  rw [cc0_eq_body]
  unfold Inv
  iintro ⟨⟨H0, H1, H2, H3, H4, H5, H6, H7, H8⟩, H9, ⟨⟨⟨%dq, HS0⟩, ⟨%dk, HS1⟩, ⟨%dv, HS2⟩, ⟨%a, %ha, HS3⟩⟩, Hg⟩, HK⟩
  iapply (runs_body c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) x9 dq dk dv a)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  have hA : setA (grid0.coords t 1).val a (attArr (qArr (iblk m c 0 t) (iblk m c 1 t) (iblk m c 4 t)) (kvArr (iblk m c 0 t) (iblk m c 2 t) (iblk m c 5 t)) (kvArr (iblk m c 0 t) (iblk m c 3 t) (iblk m c 6 t))) = setA (t.val % 4) a (attAt m c t) := by
    rw [group_of]; rfl
  rw [hA]
  have hO : (if k0_cond1 (grid0.coords t) = 1#1 then outArr (setA (t.val % 4) a (attAt m c t)) (iblk m c 7 t) (iblk m c 8 t) else x9) = if t.val % 4 = 3 then outAt m c t else x9 := by
    by_cases h3 : t.val % 4 = 3
    · rw [if_pos ((cond_iff t).mpr h3), if_pos h3, setA_last m c t a ha h3]; rfl
    · rw [if_neg (fun h => h3 ((cond_iff t).mp h)), if_neg h3]
  rw [hO]
  iintro ⟨H0, H1, H2, H3, H4, H5, H6, H7, H8, H9, HS0, HS1, HS2, HS3⟩
  iapply HK
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HS0 HS1 HS2 HS3]
  · isplitl [HS0]; · iexists _; iexact HS0
    isplitl [HS1]; · iexists _; iexact HS1
    isplitl [HS2]; · iexists _; iexact HS2
    iexists _
    isplitr
    · ipureintro; exact filled_succ m c t a ha
    iexact HS3
  iexact Hg

/-- What the body is called with at point `t`, window by window. -/
def atCall (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body returns at point `t`, window by window. -/
def atReturn (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t
    ∗ (dats m 0 c).leavesExact 9 t)

/-- The output's staging buffer: the batch's block where the body writes it, untouched elsewhere. -/
theorem leaves_out (c : Dev nD) (t : Fin cfg0.N) (d) :
    owns (c : Thread nD τ) (win0_9.stage (cfg0.slots t 9)) fullShare (if t.val % 4 = 3 then outAt m c t else (dats m 0 c).before 9 t d)
      ⊢ ((dats m 0 c).leavesExact 9 t : sProp 𝕄) := by
  by_cases h3 : t.val % 4 = 3
  · rw [if_pos h3]
    have hi : cfg0.idle 9 (cfg0.grid.coords t) = false := by
      show (!(k0_cond1 (grid0.coords t) == 1#1)) = false
      rw [(cond_iff t).mpr h3]; rfl
    unfold Dat.leavesExact
    rw [hi, after_9]
  · rw [if_neg h3]
    have hi : cfg0.idle 9 (cfg0.grid.coords t) = true := by
      show (!(k0_cond1 (grid0.coords t) == 1#1)) = true
      rw [Bool.not_eq_true', beq_eq_false_iff_ne]
      exact fun h => h3 ((cond_iff t).mp h)
    have hf : (cfg0.win 9).flush t = false := by
      rw [Bool.eq_false_iff]; exact fun h => h3 ((flush0_9 t).mp h)
    rw [Dat.leavesExact_idle _ 9 t hi hf]
    iintro H
    iexists d
    iexact H

theorem sound_body (c : Dev nD) (t : Fin cfg0.N) : atCall m c t ⊢ runs c Set.univ (bodyAt0 t) (fun _ => atReturn m c t) := by
  unfold atCall atReturn
  simp only [before0_0_of m (dats m 0 c) (dats_A m c 0) (after_0 m c), before0_1_of m (dats m 0 c) (dats_A m c 1) (after_1 m c),
    before0_2_of m (dats m 0 c) (dats_A m c 2) (after_2 m c), before0_3_of m (dats m 0 c) (dats_A m c 3) (after_3 m c),
    before0_4_of m (dats m 0 c) (dats_A m c 4) (after_4 m c), before0_5_of m (dats m 0 c) (dats_A m c 5) (after_5 m c),
    before0_6_of m (dats m 0 c) (dats_A m c 6) (after_6 m c), before0_7_of m (dats m 0 c) (dats_A m c 7) (after_7 m c),
    before0_8_of m (dats m 0 c) (dats_A m c 8) (after_8 m c)]
  rw [show (dats m 0 c).owesAt () t.succ = (dats m 0 c).owesAt () t.castSucc from rfl,
    show (dats m 0 c).Φ t.succ = Inv m c (t.val + 1) from rfl, show (dats m 0 c).Φ t.castSucc = Inv m c t.val from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_at m c t ((dats m 0 c).before 9 t d9))
  isplitl [H0 H1 H2 H3 H4 H5 H6 H7 H8]
  · unfold inputs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HI]; · iexact HI
  unfold inputs
  iintro ⟨⟨H0, H1, H2, H3, H4, H5, H6, H7, H8⟩, H9, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves_out m c t d9)
  iexact H9

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, row_eq]
  exact triple_restated (sound_body m c t) rfl .rfl fun _ => .rfl

/-! ## The run -/

theorem inv_start (c : Dev nD) : (Pipeline.ΦA spec0 c : sProp 𝕄) ⊢ (dats m 0 c).Φ 0 := by
  rw [free_eq, show (dats m 0 c).Φ 0 = Inv m c 0 from rfl]
  unfold Inv
  iintro ⟨⟨HS0, HS1, HS2, ⟨%a, HS3⟩⟩, Hg⟩
  isplitl [HS0 HS1 HS2 HS3]
  · isplitl [HS0]; · iexact HS0
    isplitl [HS1]; · iexact HS1
    isplitl [HS2]; · iexact HS2
    iexists a
    isplitr
    · ipureintro; exact filled_zero m c a
    iexact HS3
  iexact Hg

theorem inv_end (c : Dev nD) : (dats m 0 c).Φ (Fin.last cfg0.N) ⊢ (Pipeline.ΦA spec0 c : sProp 𝕄) := by
  rw [free_eq, show (dats m 0 c).Φ (Fin.last cfg0.N) = Inv m c cfg0.N from rfl]
  unfold Inv
  iintro ⟨⟨HS0, HS1, HS2, ⟨%a, %ha, HS3⟩⟩, Hg⟩
  isplitl [HS0 HS1 HS2 HS3]
  · isplitl [HS0]; · iexact HS0
    isplitl [HS1]; · iexact HS1
    isplitl [HS2]; · iexact HS2
    iexists a
    iexact HS3
  iexact Hg

set_option backward.isDefEq.respectTransparency.types false in
/-- The whole program terminates with its arrays as the pipeline's data say and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hin := inv_start m) (hout := inv_end m)

theorem run_post : θ_run defs (onTc (τ := τ) (main (F := F))) (s₀ m ρ) (Pipeline.FramePost cfgs (dats m) 0 (V m)) :=
  (θ_run defs _ _).mono (fun _ h => h.1) (run_quiescent m ρ)

/-- The argument arrays end unchanged. -/
def Kept (r : PUnit × MemSt nD τ sig (Elt F)) (c : Dev nD) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)

theorem run_kept : θ_run defs (onTc (τ := τ) (main (F := F))) ⟨m, fun _ => 0, ρ⟩ (fun r => ∀ c : Dev nD, Kept m r c) :=
  frame_of m ρ (dats m) (dats_A m) (run_post m ρ)

/-- The program terminates, keeps its arguments and leaves every counter at zero. -/
theorem run_frame : θ_run defs (onTc (τ := τ) (main (F := F))) ⟨m, fun _ => 0, ρ⟩ (fun r => (∀ c : Dev nD, Kept m r c) ∧ r.2.sem = fun _ => 0) :=
  θ_run_and (run_kept m ρ) ((θ_run defs _ _).mono (fun _ h => h.2) (run_quiescent m ρ))

/-- The program terminates with its result at the pipeline's output array and its arguments kept. -/
theorem run_result : θ_run defs (onTc (τ := τ) (main (F := F))) ⟨m, fun _ => 0, ρ⟩ (fun r => ∀ c : Dev nD,
    r.2.mem ((c.tc : Thread nD τ).loc main_v6) = (dats m 0 c).arrAt 9 cfg0.N ∧ Kept m r c) :=
  (θ_run defs _ _).mono (fun _ h c => ⟨(h.2 c).1 9, h.1 c⟩) (θ_run_and (run_kept m ρ) (run_post m ρ))

end Cert.KernelIdeal.Gen

end
-- ==== Proof.Softmax.lean ====
/- The law that a row of the kernel and a row of the reference share: weights that are exponentials of real
   scores give the same weighted mean whether or not the row's maximum is subtracted first. -/
module

public import Idealize.ShloMosaic.PureOps.Ideal
public import Idealize.ShloMosaic.PureOps.Ideal.Laws

@[expose] public section

noncomputable section

namespace Cert.Proof.Softmax

open Idealize.ShloMosaic

/-- A sum of reals is the same taken among the reals or among the extended reals. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A factor that is a nonnegative real moves into a sum. -/
theorem mul_sum {ι : Type} (s : Finset ι) (a : ℝ) (ha : 0 ≤ a) (f : ι → EReal) : (a : EReal) * ∑ i ∈ s, f i = ∑ i ∈ s, (a : EReal) * f i := by
  classical
  refine Finset.induction_on s (by simp) fun i s hi ih => ?_
  rw [Finset.sum_insert hi, Finset.sum_insert hi,
    EReal.left_distrib_of_nonneg_of_ne_top (EReal.coe_nonneg.mpr ha) (EReal.coe_ne_top a), ih]

/-- The greatest of finitely many values that are real or minus infinity, one of them real, is real. -/
theorem max_real {n : ℕ} (x : Fin n → EReal) (j : Fin n) (hj : x j ≠ ⊥) (ht : ∀ i, x i ≠ ⊤) :
    ∃ r : ℝ, max ⊥ (Finset.univ.fold max ⊥ x) = (r : EReal) := by
  have h1 : Finset.univ.fold max ⊥ x < ⊤ := (Finset.fold_max_lt _).mpr ⟨bot_lt_top, fun i _ => lt_top_iff_ne_top.mpr (ht i)⟩
  have h2 : x j ≤ Finset.univ.fold max ⊥ x := (Finset.le_fold_max _).mpr (Or.inr ⟨j, Finset.mem_univ j, le_rfl⟩)
  have h3 : Finset.univ.fold max ⊥ x ≠ ⊥ := fun h => hj (le_bot_iff.mp (h ▸ h2))
  exact ⟨(Finset.univ.fold max ⊥ x).toReal, by rw [max_eq_right bot_le, EReal.coe_toReal h1.ne h3]⟩

/-- Two to the score over the logarithm of 256 is the exponential of an eighth of the score. -/
theorem pow_two (s : ℝ) : Real.rpow 2 (s * (Real.log 256)⁻¹) = Real.exp (s / 8) := by
  have h2 : Real.log 2 ≠ 0 := (Real.log_pos (by norm_num)).ne'
  have h : Real.log 256 = 8 * Real.log 2 := by
    rw [show (256 : ℝ) = 2 ^ 8 by norm_num, Real.log_pow]; norm_num
  show (2 : ℝ) ^ (s * (Real.log 256)⁻¹) = _
  rw [Real.rpow_def_of_pos (by norm_num), h]
  congr 1
  field_simp

/-- The weighted sum over the sum of the weights, one quotient at the end. -/
theorem late {n : ℕ} (p : Fin n → ℝ) (h0 : ∀ j, 0 ≤ p j) (hs : 0 < ∑ j, p j) (v : Fin n → EReal) :
    (∑ j, (p j : EReal) * v j) * Ideal.div 1 (∑ j, (p j : EReal)) = ∑ j, ((p j / ∑ i, p i : ℝ) : EReal) * v j := by
  rw [← coe_sum, Ideal.div_coe hs.ne', one_mul, mul_comm, mul_sum _ _ (by positivity)]
  refine Finset.sum_congr rfl fun j _ => ?_
  rw [← mul_assoc, ← EReal.coe_mul, one_div, div_eq_mul_inv, mul_comm (p j)]

/-- The weighted sum with every weight divided by the sum first, all weights scaled by one factor. -/
theorem early {n : ℕ} (p : Fin n → ℝ) (hs : 0 < ∑ j, p j) (z : ℝ) (hz : 0 < z) (v : Fin n → EReal) :
    (∑ j, Ideal.div ((p j * z : ℝ) : EReal) (∑ i, ((p i * z : ℝ) : EReal)) * v j) = ∑ j, ((p j / ∑ i, p i : ℝ) : EReal) * v j := by
  have h : (∑ i, p i * z) ≠ 0 := by rw [← Finset.sum_mul]; positivity
  refine Finset.sum_congr rfl fun j _ => ?_
  rw [← coe_sum, Ideal.div_coe h, ← EReal.coe_mul, ← Finset.sum_mul]
  congr 2
  field_simp

/-- One row: the kernel's weighted sum times the reciprocal of the sum of its weights is the reference's sum of values
    weighted by the softmax with the maximum subtracted. -/
theorem row {n : ℕ} (A : Fin n → Prop) [DecidablePred A] (j : Fin n) (hj : A j) (s : Fin n → ℝ) (v x : Fin n → EReal)
    (hx : ∀ i, x i = if A i then ((s i / 8 : ℝ) : EReal) else ⊥) :
    (∑ i, (if A i then ((Real.exp (s i / 8) : ℝ) : EReal) else 0) * v i) * Ideal.div 1 (∑ i, if A i then ((Real.exp (s i / 8) : ℝ) : EReal) else 0)
      = ∑ i, Ideal.div (Ideal.exp (x i - max ⊥ (Finset.univ.fold max ⊥ x))) (∑ i, Ideal.exp (x i - max ⊥ (Finset.univ.fold max ⊥ x))) * v i := by
  obtain ⟨M, hM⟩ := max_real x j (by rw [hx, if_pos hj]; exact EReal.coe_ne_bot _)
    (fun i => by rw [hx]; split; exacts [EReal.coe_ne_top _, bot_ne_top])
  have e1 : ∀ i, Ideal.exp (x i - max ⊥ (Finset.univ.fold max ⊥ x)) = (((if A i then Real.exp (s i / 8) else 0) * Real.exp (-M) : ℝ) : EReal) := fun i => by
    rw [hM, hx]
    split
    · rw [← EReal.coe_sub, Ideal.exp_coe, ← Real.exp_add, sub_eq_add_neg]
    · rw [EReal.bot_sub, Ideal.exp_bot, zero_mul, EReal.coe_zero]
  have e2 : ∀ i, (if A i then ((Real.exp (s i / 8) : ℝ) : EReal) else 0) = ((if A i then Real.exp (s i / 8) else 0 : ℝ) : EReal) := fun i => by
    split <;> simp
  have h0 : ∀ i, 0 ≤ (if A i then Real.exp (s i / 8) else 0 : ℝ) := fun i => by split <;> positivity
  have hs : 0 < ∑ i, (if A i then Real.exp (s i / 8) else 0 : ℝ) :=
    Finset.sum_pos' (fun i _ => h0 i) ⟨j, Finset.mem_univ j, by rw [if_pos hj]; positivity⟩
  simp only [e1, e2]
  rw [late _ h0 hs, early _ hs _ (Real.exp_pos _)]

end Cert.Proof.Softmax

end
-- ==== Proof.Model.lean ====
/- The attention layer in the two forms that the kernel and the reference compute it in, as functions of indices,
   and the equation between the two forms. -/
module

public import proofs.«01_k».proof.Proof.Softmax
public import Idealize.ShloMosaic.Lib.Pointwise

@[expose] public section

noncomputable section

namespace Cert.Proof.Model

open Idealize.ShloMosaic

/-- The factor that turns a score into the logarithm to base two of its weight. -/
def scale : EReal := ((Real.log 256)⁻¹ : ℝ)

/-- A linear layer with bias at batch `b`, row `r`, column `n`. -/
def lin (x : (⟨3, ![2, 2048, 1024]⟩ : Shape).Idx → EReal) (w : (⟨2, ![1024, 1024]⟩ : Shape).Idx → EReal) (c : (⟨1, ![1024]⟩ : Shape).Idx → EReal)
    (b : Fin 2) (r : Fin 2048) (n : Fin 1024) : EReal := (∑ k : Fin 1024, x (ix3 b r k) * w (ix2 k n)) + c (ix1 n)

/-- Lane `e` of the head that column `n` lies in. -/
def lane (n : Fin 1024) (e : Fin 64) : Fin 1024 := ⟨n.val / 64 * 64 + e.val, by omega⟩

/-- The kernel's weight of key `s` for query `r` in the head of column `n`. -/
def wt (q k : Fin 2048 → Fin 1024 → EReal) (n : Fin 1024) (r s : Fin 2048) : EReal :=
  if s.val ≤ r.val then Ideal.exp2 (∑ e : Fin 64, q r (lane n e) * scale * k s (lane n e)) else 0

/-- The attention as the kernel computes it. -/
def late (q k v : Fin 2048 → Fin 1024 → EReal) (r : Fin 2048) (n : Fin 1024) : EReal :=
  (∑ s : Fin 2048, wt q k n r s * v s n) * Ideal.div 1 (∑ s : Fin 2048, wt q k n r s)

/-- The reference's masked score of key `s` for query `r` in the head of column `n`. -/
def score (keep : Fin 2048 → Fin 2048 → Prop) [∀ r s, Decidable (keep r s)] (q k : Fin 2048 → Fin 1024 → EReal) (n : Fin 1024) (r s : Fin 2048) : EReal :=
  if keep r s then Ideal.div (∑ e : Fin 64, q r (lane n e) * k s (lane n e)) ((8 : ℝ) : EReal) else ⊥

/-- The greatest score of a row. -/
def top (x : Fin 2048 → EReal) : EReal := max ⊥ (Finset.univ.fold max ⊥ x)

/-- The attention as the reference computes it. -/
def early (keep : Fin 2048 → Fin 2048 → Prop) [∀ r s, Decidable (keep r s)] (q k v : Fin 2048 → Fin 1024 → EReal) (r : Fin 2048) (n : Fin 1024) : EReal :=
  ∑ s : Fin 2048, Ideal.div (Ideal.exp (score keep q k n r s - top (score keep q k n r)))
    (∑ s : Fin 2048, Ideal.exp (score keep q k n r s - top (score keep q k n r))) * v s n

/-- A linear layer of real arrays is real. -/
theorem lin_real (x : (⟨3, ![2, 2048, 1024]⟩ : Shape).Idx → EReal) (w : (⟨2, ![1024, 1024]⟩ : Shape).Idx → EReal) (c : (⟨1, ![1024]⟩ : Shape).Idx → EReal)
    (hx : ∀ i, ∃ a : ℝ, x i = a) (hw : ∀ i, ∃ a : ℝ, w i = a) (hc : ∀ i, ∃ a : ℝ, c i = a) :
    ∃ f : Fin 2 → Fin 2048 → Fin 1024 → ℝ, ∀ b r n, lin x w c b r n = f b r n := by
  choose fx hx using hx
  choose fw hw using hw
  choose fc hc using hc
  refine ⟨fun b r n => (∑ k : Fin 1024, fx (ix3 b r k) * fw (ix2 k n)) + fc (ix1 n), fun b r n => ?_⟩
  rw [lin, EReal.coe_add, Softmax.coe_sum, hc]
  exact congrArg (· + _) (Finset.sum_congr rfl fun k _ => by rw [hx, hw, EReal.coe_mul])

/-- With real queries and keys and the causal mask, both forms of the attention are the same. -/
theorem late_eq_early (keep : Fin 2048 → Fin 2048 → Prop) [∀ r s, Decidable (keep r s)] (hk : ∀ r s, keep r s ↔ s.val ≤ r.val)
    (q k v : Fin 2048 → Fin 1024 → EReal) (q' k' : Fin 2048 → Fin 1024 → ℝ) (hq : ∀ r n, q r n = q' r n) (hk' : ∀ r n, k r n = k' r n)
    (r : Fin 2048) (n : Fin 1024) : late q k v r n = early keep q k v r n := by
  have e : ∀ s, wt q k n r s = if s.val ≤ r.val then ((Real.exp ((∑ e : Fin 64, q' r (lane n e) * k' s (lane n e)) / 8) : ℝ) : EReal) else 0 := fun s => by
    unfold wt
    refine if_congr Iff.rfl ?_ rfl
    rw [← Softmax.pow_two, ← Ideal.exp2_coe, Finset.sum_mul, Softmax.coe_sum]
    refine congrArg _ (Finset.sum_congr rfl fun e _ => ?_)
    rw [hq, hk', scale, ← EReal.coe_mul, ← EReal.coe_mul]
    congr 1
    ring
  unfold late early
  simp only [e]
  refine Softmax.row (fun s : Fin 2048 => s.val ≤ r.val) r le_rfl (fun s => ∑ e : Fin 64, q' r (lane n e) * k' s (lane n e)) (fun s => v s n) _ fun s => ?_
  unfold score
  refine if_congr (hk r s) ?_ rfl
  rw [Ideal.div_coe (by norm_num), div_eq_mul_one_div (∑ e : Fin 64, q' r (lane n e) * k' s (lane n e)), EReal.coe_mul, Softmax.coe_sum]
  exact congrArg (· * _) (Finset.sum_congr rfl fun e _ => by rw [hq, hk', EReal.coe_mul])

end Cert.Proof.Model

end
-- ==== Proof.Values.lean ====
/- What the idealized kernel's result array holds, at an index, in terms of the argument arrays. -/
module

public import proofs.«01_k».proof.Proof.AttValue
public import proofs.«01_k».proof.Proof.Run
public import proofs.«01_k».proof.Proof.Model
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe Idealize.SL.Sem
open Cert.Proof

/-! ## The arrays of one batch member at an index -/

theorem kvArr_at (x : Vec Ideal S1x2048x1024 .bf16) (w : Vec Ideal S1024x256 .f32) (b : Vec Ideal S1x1x256 .f32) (r : Fin 2048) (j : Fin 256) :
    kvArr x w b (ix2 r j) = (∑ k : Fin 1024, x (ix3 0 r k) * w (ix2 k j)) + b (ix3 0 0 j) := by
  show kvVal (xrows x ⟨r.val / 256, by omega⟩) w b (ix2 ⟨r.val % 256, Nat.mod_lt _ (by norm_num)⟩ j) = _
  rw [kvVal_at]
  simp only [xrows_at, Nat.div_add_mod]

theorem qArr_at (x : Vec Ideal S1x2048x1024 .bf16) (w : Vec Ideal S1024x256 .f32) (b : Vec Ideal S1x1x256 .f32) (r : Fin 2048) (j : Fin 256) :
    qArr x w b (ix2 r j) = ((∑ k : Fin 1024, x (ix3 0 r k) * w (ix2 k j)) + b (ix3 0 0 j)) * scale := by
  show qVal (xrows x ⟨r.val / 256, by omega⟩) w b (ix2 ⟨r.val % 256, Nat.mod_lt _ (by norm_num)⟩ j) = _
  rw [qVal_at]
  simp only [xrows_at, Nat.div_add_mod]

theorem attArr_at (q k v : Vec Ideal S2048x256 .bf16) (r : Fin 2048) (j : Fin 256) :
    attArr q k v (ix2 r j) = (∑ s : Fin 2048, masked q k ⟨j.val / 64, by omega⟩ r s * v (ix2 s j)) * Ideal.div 1 (∑ s : Fin 2048, masked q k ⟨j.val / 64, by omega⟩ r s) := by
  show attVal q k v ⟨j.val / 64, by omega⟩ ⟨r.val / 256, by omega⟩ (ix3 0 ⟨r.val % 256, Nat.mod_lt _ (by norm_num)⟩ ⟨j.val % 64, Nat.mod_lt _ (by norm_num)⟩) = _
  rw [attVal_at]
  simp only [Nat.div_add_mod]

theorem termVal_at (a : Vec Ideal S4x2048x256 .bf16) (w : Vec Ideal S4x256x1024 .f32) (t : Fin 8) (g : Fin 4) (i : Fin 256) (n : Fin 1024) :
    termVal a w t g (ix2 i n) = ∑ k : Fin 256, a (ix3 g ⟨256 * t.val + i.val, by omega⟩ k) * w (ix3 g k n) := by
  rw [termVal, outMul_at, VecWindow.window_eq_ld, VecWindow.window_eq_ld]
  refine Finset.sum_congr rfl fun k _ => ?_
  pointwise

theorem outArr_at (a : Vec Ideal S4x2048x256 .bf16) (w : Vec Ideal S4x256x1024 .f32) (b : Vec Ideal S1x1024 .f32) (z : Fin 1) (r : Fin 2048) (n : Fin 1024) :
    outArr a w b (ix3 z r n) = b (ix2 0 n) + ∑ g : Fin 4, ∑ k : Fin 256, a (ix3 g r k) * w (ix3 g k n) := by
  show outVal a w b ⟨r.val / 256, by omega⟩ (ix3 0 ⟨r.val % 256, Nat.mod_lt _ (by norm_num)⟩ n) = _
  have e : ∀ g : Fin 4, termVal a w ⟨r.val / 256, by omega⟩ g (ix2 ⟨r.val % 256, Nat.mod_lt _ (by norm_num)⟩ n) = ∑ k : Fin 256, a (ix3 g r k) * w (ix3 g k n) := fun g => by
    rw [termVal_at]
    simp only [Nat.div_add_mod]
  have e' : outVal a w b ⟨r.val / 256, by omega⟩ (ix3 0 ⟨r.val % 256, Nat.mod_lt _ (by norm_num)⟩ n)
      = outBias b (ix2 ⟨r.val % 256, Nat.mod_lt _ (by norm_num)⟩ n)
        + termVal a w ⟨r.val / 256, by omega⟩ 0 (ix2 ⟨r.val % 256, Nat.mod_lt _ (by norm_num)⟩ n)
        + termVal a w ⟨r.val / 256, by omega⟩ 1 (ix2 ⟨r.val % 256, Nat.mod_lt _ (by norm_num)⟩ n)
        + termVal a w ⟨r.val / 256, by omega⟩ 2 (ix2 ⟨r.val % 256, Nat.mod_lt _ (by norm_num)⟩ n)
        + termVal a w ⟨r.val / 256, by omega⟩ 3 (ix2 ⟨r.val % 256, Nat.mod_lt _ (by norm_num)⟩ n) := by
    pointwise [outVal]
  rw [e', outBias_at, Fin.sum_univ_four, e, e, e, e]
  simp only [add_assoc]

/-! ## The blocks that the region finds -/

variable (m : (ℓ : Loc nD τ sig) → Buf (Elt Ideal) ℓ)

theorem V0_at (c : Dev nD) (b : Fin 2) (r : Fin 2048) (k : Fin 1024) :
    V m c main_v0 (ix3 b r k) = m ((c : Thread nD τ).loc main_arg0) (ix3 b r k) := by
  unfold V
  after_reads_at

/-- Column `j` of the columns of head group `g`. -/
def col (g : Fin 4) (j : Fin 256) : Fin 1024 := ⟨g.val * 256 + j.val, by omega⟩

theorem V1_at (c : Dev nD) (g : Fin 4) (k : Fin 256) (n : Fin 1024) :
    V m c main_v1 (ix3 g k n) = m ((c : Thread nD τ).loc main_arg8) (ix2 (col g k) n) := by
  unfold V
  after_reads_at
  rfl

theorem V2_at (c : Dev nD) (g : Fin 4) (j : Fin 256) :
    V m c main_v2 (ix3 g 0 j) = m ((c : Thread nD τ).loc main_arg3) (ix1 (col g j)) := by
  unfold V
  after_reads_at
  rfl

theorem V3_at (c : Dev nD) (g : Fin 4) (j : Fin 256) :
    V m c main_v3 (ix3 g 0 j) = m ((c : Thread nD τ).loc main_arg5) (ix1 (col g j)) := by
  unfold V
  after_reads_at
  rfl

theorem V4_at (c : Dev nD) (g : Fin 4) (j : Fin 256) :
    V m c main_v4 (ix3 g 0 j) = m ((c : Thread nD τ).loc main_arg7) (ix1 (col g j)) := by
  unfold V
  after_reads_at
  rfl

theorem V5_at (c : Dev nD) (n : Fin 1024) : V m c main_v5 (ix2 0 n) = m ((c : Thread nD τ).loc main_arg9) (ix1 n) := by
  unfold V
  after_reads_at

theorem index_0 : ∀ t : Fin cfg0.N, win0_0.index t = ![t.val / 4, 0, 0] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![0, t.val % 4] := (by decide +kernel : ∀ t : Fin grid0.N, _)
theorem index_3 : ∀ t : Fin cfg0.N, win0_3.index t = ![0, t.val % 4] := (by decide +kernel : ∀ t : Fin grid0.N, _)
theorem index_4 : ∀ t : Fin cfg0.N, win0_4.index t = ![t.val % 4, 0, 0] := (by decide +kernel : ∀ t : Fin grid0.N, _)
theorem index_5 : ∀ t : Fin cfg0.N, win0_5.index t = ![t.val % 4, 0, 0] := (by decide +kernel : ∀ t : Fin grid0.N, _)
theorem index_6 : ∀ t : Fin cfg0.N, win0_6.index t = ![t.val % 4, 0, 0] := (by decide +kernel : ∀ t : Fin grid0.N, _)
theorem index_7 : ∀ t : Fin cfg0.N, win0_7.index t = ![0, 0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val / 4, 0, 0] := (by decide +kernel : ∀ t : Fin grid0.N, _)

/-- The point of batch `b` and head group `g`. -/
abbrev at' (b : Fin 2) (g : Fin 4) : Fin cfg0.N := pt (4 * b.val + g.val)

theorem at_div (b : Fin 2) (g : Fin 4) : (at' b g).val / 4 = b.val := by
  show (4 * b.val + g.val) % 8 / 4 = _; omega

theorem at_mod (b : Fin 2) (g : Fin 4) : (at' b g).val % 4 = g.val := by
  show (4 * b.val + g.val) % 8 % 4 = _; omega

theorem iblk0_at (c : Dev nD) (b : Fin 2) (g : Fin 4) (r : Fin 2048) (k : Fin 1024) :
    iblk m c 0 (at' b g) (ix3 0 r k) = m ((c : Thread nD τ).loc main_arg0) (ix3 b r k) := by
  refine Eq.trans ?_ (V0_at m c b r k)
  blk_simp [iblk]
  congr 1
  blk_ext [index_0, at_div]

theorem iblk1_at (c : Dev nD) (b : Fin 2) (g : Fin 4) (k : Fin 1024) (j : Fin 256) :
    iblk m c 1 (at' b g) (ix2 k j) = m ((c : Thread nD τ).loc main_arg2) (ix2 k (col g j)) := by
  refine Eq.trans ?_ (congrFun (V_main_arg2 m c) (ix2 k (col g j)))
  blk_simp [iblk]
  congr 1
  blk_ext [index_1, at_mod, col]

theorem iblk2_at (c : Dev nD) (b : Fin 2) (g : Fin 4) (k : Fin 1024) (j : Fin 256) :
    iblk m c 2 (at' b g) (ix2 k j) = m ((c : Thread nD τ).loc main_arg4) (ix2 k (col g j)) := by
  refine Eq.trans ?_ (congrFun (V_main_arg4 m c) (ix2 k (col g j)))
  blk_simp [iblk]
  congr 1
  blk_ext [index_2, at_mod, col]

theorem iblk3_at (c : Dev nD) (b : Fin 2) (g : Fin 4) (k : Fin 1024) (j : Fin 256) :
    iblk m c 3 (at' b g) (ix2 k j) = m ((c : Thread nD τ).loc main_arg6) (ix2 k (col g j)) := by
  refine Eq.trans ?_ (congrFun (V_main_arg6 m c) (ix2 k (col g j)))
  blk_simp [iblk]
  congr 1
  blk_ext [index_3, at_mod, col]

theorem iblk4_at (c : Dev nD) (b : Fin 2) (g : Fin 4) (j : Fin 256) :
    iblk m c 4 (at' b g) (ix3 0 0 j) = m ((c : Thread nD τ).loc main_arg3) (ix1 (col g j)) := by
  refine Eq.trans ?_ (V2_at m c g j)
  blk_simp [iblk]
  congr 1
  blk_ext [index_4, at_mod]

theorem iblk5_at (c : Dev nD) (b : Fin 2) (g : Fin 4) (j : Fin 256) :
    iblk m c 5 (at' b g) (ix3 0 0 j) = m ((c : Thread nD τ).loc main_arg5) (ix1 (col g j)) := by
  refine Eq.trans ?_ (V3_at m c g j)
  blk_simp [iblk]
  congr 1
  blk_ext [index_5, at_mod]

theorem iblk6_at (c : Dev nD) (b : Fin 2) (g : Fin 4) (j : Fin 256) :
    iblk m c 6 (at' b g) (ix3 0 0 j) = m ((c : Thread nD τ).loc main_arg7) (ix1 (col g j)) := by
  refine Eq.trans ?_ (V4_at m c g j)
  blk_simp [iblk]
  congr 1
  blk_ext [index_6, at_mod]

theorem iblk7_at (c : Dev nD) (t : Fin cfg0.N) (g : Fin 4) (k : Fin 256) (n : Fin 1024) :
    iblk m c 7 t (ix3 g k n) = m ((c : Thread nD τ).loc main_arg8) (ix2 (col g k) n) := by
  refine Eq.trans ?_ (V1_at m c g k n)
  blk_simp [iblk]
  congr 1
  blk_ext [index_7]

theorem iblk8_at (c : Dev nD) (t : Fin cfg0.N) (n : Fin 1024) :
    iblk m c 8 t (ix2 0 n) = m ((c : Thread nD τ).loc main_arg9) (ix1 n) := by
  refine Eq.trans ?_ (V5_at m c n)
  blk_simp [iblk]
  congr 1
  blk_ext [index_8]

/-! ## The result at an index -/

/-- The queries, before scaling. -/
abbrev qs (c : Dev nD) (b : Fin 2) (r : Fin 2048) (n : Fin 1024) : EReal :=
  Model.lin (m ((c : Thread nD τ).loc main_arg0)) (m ((c : Thread nD τ).loc main_arg2)) (m ((c : Thread nD τ).loc main_arg3)) b r n

/-- The keys. -/
abbrev ks (c : Dev nD) (b : Fin 2) (r : Fin 2048) (n : Fin 1024) : EReal :=
  Model.lin (m ((c : Thread nD τ).loc main_arg0)) (m ((c : Thread nD τ).loc main_arg4)) (m ((c : Thread nD τ).loc main_arg5)) b r n

/-- The values. -/
abbrev vs (c : Dev nD) (b : Fin 2) (r : Fin 2048) (n : Fin 1024) : EReal :=
  Model.lin (m ((c : Thread nD τ).loc main_arg0)) (m ((c : Thread nD τ).loc main_arg6)) (m ((c : Thread nD τ).loc main_arg7)) b r n

theorem q_at (c : Dev nD) (b : Fin 2) (g : Fin 4) (r : Fin 2048) (j : Fin 256) :
    qArr (iblk m c 0 (at' b g)) (iblk m c 1 (at' b g)) (iblk m c 4 (at' b g)) (ix2 r j) = qs m c b r (col g j) * Model.scale := by
  rw [qArr_at, iblk4_at]
  simp only [iblk0_at, iblk1_at]
  rfl

theorem k_at (c : Dev nD) (b : Fin 2) (g : Fin 4) (r : Fin 2048) (j : Fin 256) :
    kvArr (iblk m c 0 (at' b g)) (iblk m c 2 (at' b g)) (iblk m c 5 (at' b g)) (ix2 r j) = ks m c b r (col g j) := by
  rw [kvArr_at, iblk5_at]
  simp only [iblk0_at, iblk2_at]
  rfl

theorem v_at (c : Dev nD) (b : Fin 2) (g : Fin 4) (r : Fin 2048) (j : Fin 256) :
    kvArr (iblk m c 0 (at' b g)) (iblk m c 3 (at' b g)) (iblk m c 6 (at' b g)) (ix2 r j) = vs m c b r (col g j) := by
  rw [kvArr_at, iblk6_at]
  simp only [iblk0_at, iblk3_at]
  rfl

theorem lane_col (g : Fin 4) (j : Fin 256) (e : Fin 64) :
    col g ⟨64 * (j.val / 64) + e.val, by omega⟩ = Model.lane (col g j) e :=
  Fin.ext (by show g.val * 256 + (64 * (j.val / 64) + e.val) = (g.val * 256 + j.val) / 64 * 64 + e.val; omega)

theorem masked_at (c : Dev nD) (b : Fin 2) (g : Fin 4) (r s : Fin 2048) (j : Fin 256) :
    masked (qArr (iblk m c 0 (at' b g)) (iblk m c 1 (at' b g)) (iblk m c 4 (at' b g)))
      (kvArr (iblk m c 0 (at' b g)) (iblk m c 2 (at' b g)) (iblk m c 5 (at' b g))) ⟨j.val / 64, by omega⟩ r s
      = Model.wt (qs m c b) (ks m c b) (col g j) r s := by
  unfold masked Model.wt
  simp only [q_at, k_at, lane_col]

theorem attAt_at (c : Dev nD) (b : Fin 2) (g : Fin 4) (r : Fin 2048) (j : Fin 256) :
    attAt m c (at' b g) (ix2 r j) = Model.late (qs m c b) (ks m c b) (vs m c b) r (col g j) := by
  rw [attAt, attArr_at, Model.late]
  simp only [masked_at, v_at]

theorem sum_col (f : Fin 1024 → EReal) : (∑ g : Fin 4, ∑ j : Fin 256, f (col g j)) = ∑ n : Fin 1024, f n := by
  rw [← Finset.sum_product', ← (finProdFinEquiv (m := 4) (n := 256)).sum_comp]
  refine Finset.sum_congr rfl fun x _ => congrArg f (Fin.ext ?_)
  show x.1.val * 256 + x.2.val = x.2.val + 256 * x.1.val
  omega

/-- The output weights. -/
abbrev wo (c : Dev nD) : S1024x1024.Idx → EReal := m ((c : Thread nD τ).loc main_arg8)

/-- The output bias. -/
abbrev bo (c : Dev nD) : S1024.Idx → EReal := m ((c : Thread nD τ).loc main_arg9)

/-- What the result array is shown to hold: the attention of each row times the output weights, plus the bias. -/
def result (c : Dev nD) : S2x2048x1024.Idx → EReal := fun i =>
  bo m c (ix1 (i 2)) + ∑ n : Fin 1024, Model.late (qs m c (i 0)) (ks m c (i 0)) (vs m c (i 0)) (i 1) n * wo m c (ix2 n (i 2))

theorem outAt_at (c : Dev nD) (t : Fin cfg0.N) (b : Fin 2) (hb : t.val / 4 = b.val) (z : Fin 1) (r : Fin 2048) (n : Fin 1024) :
    outAt m c t (ix3 z r n) = result m c (ix3 b r n) := by
  have e : ∀ (g : Fin 4) (k : Fin 256), attOf m c (t.val / 4) (ix3 g r k) = Model.late (qs m c b) (ks m c b) (vs m c b) r (col g k) := fun g k => by
    rw [hb]
    exact attAt_at m c b g r k
  rw [outAt, outArr_at, iblk8_at]
  simp only [e, iblk7_at]
  exact congrArg (bo m c (ix1 n) + ·) (sum_col fun k => Model.late (qs m c b) (ks m c b) (vs m c b) r k * wo m c (ix2 k n))

theorem final_eq (c : Dev nD) : (dats m 0 c).arrAt 9 cfg0.N = result m c := by
  refine (dats m 0 c).arrAt_eq_of_covers 9 (result m c) (by decide +kernel) fun t hf y => ?_
  blk_simp
  rw [after_9]
  have ht : t.val < 8 := Nat.lt_of_lt_of_eq t.isLt N_0
  obtain ⟨z, r, n, rfl⟩ : ∃ (z : Fin 1) (r : Fin 2048) (n : Fin 1024), y = ix3 z r n := ⟨y 0, y 1, y 2, eq_ix3 y⟩
  refine (outAt_at m c t ⟨t.val / 4, by omega⟩ rfl z r n).trans (congrArg (result m c) ?_)
  blk_ext [index_9]

/-- The run of the idealized kernel with its result. -/
theorem run_value (ρ : Dev nD → PrngReg) : θ_run defs (onTc (τ := τ) (main (F := Ideal))) ⟨m, fun _ => 0, ρ⟩ (fun r => ∀ c : Dev nD,
    r.2.mem ((c : Thread nD τ).loc main_v6) = result m c ∧ Kept m r c) :=
  (θ_run defs _ _).mono (fun r h c => ⟨(h c).1.trans (final_eq m c), (h c).2⟩) (run_result m ρ)

end Cert.KernelIdeal.Gen

end
-- ==== Proof.Reference.lean ====
/- The reference's result at an index. -/
module

public import proofs.«01_k».proof.Proof.Model
public import proofs.«01_k».proof.Proof.Gen.ReferenceIdeal.Run
public import proofs.«01_k».proof.Proof.Gen.ReferenceIdeal.Read
public import Idealize.ShloMosaic.Lib.Pointwise
public import Idealize.ShloMosaic.Lib.Tactic.CleanTypes

@[expose] public section

set_option maxRecDepth 16384

noncomputable section

namespace Cert.Proof.Reference

open Idealize.ShloMosaic Cert.ReferenceIdeal Cert.ReferenceIdeal.Gen Cert.ReferenceIdeal.Read

/-- Lane `e` of head `h`. -/
def col (h : Fin 16) (e : Fin 64) : Fin 1024 := ⟨h.val * 64 + e.val, by omega⟩

/-- The mask keeps key `s` for query `r`. -/
abbrev keep (x1 : S1x1x2048x2048.Idx → BitVec 32) (r s : Fin 2048) : Prop := x1 (ix4 0 0 r s) ≠ 0#32

/-- The number eight. -/
theorem eight : Ideal.ofBits .f32 0x41000000#32 = ((8 : ℝ) : EReal) := by
  simp [Ideal.ofBits, Ideal.ieee]
  rw [← EReal.coe_mul]
  norm_num

/-- Minus infinity. -/
theorem minus : Ideal.ofBits .f32 0xFF800000#32 = ⊥ := by
  simp [Ideal.ofBits, Ideal.ieee]

/-- A maximum along the keys is the fold over them. -/
theorem fold_at (y : S2x16x2048x2048.Idx → EReal) (z : S_.Idx → EReal) (b : Fin 2) (h : Fin 16) (r : Fin 2048) :
    Host.reduce (max : EReal → EReal → EReal) y z reducesTo_S2x16x2048x2048_S2x16x2048_d3 h_S_ (ix3 b h r) = Finset.univ.fold max (z ix0) (fun s => y (ix4 b h r s)) := by
  rw [Host.reduce_eq_fold, Shape.ReducesTo.fold_fiber_r4_a3]
  congr 1
  exact congrArg z (funext fun a => a.elim0)

/-- The ideal maximum is the order's. -/
theorem max_eq : (FloatOps.maximumf (F := Ideal) (φ := .f32)) = (max : EReal → EReal → EReal) := rfl

/-- The maximum of two arrays at an index. -/
theorem max_at (x y : S2x16x2048.Idx → EReal) (i : S2x16x2048.Idx) : maximumf (F := Ideal) (φ := .f32) x y i = max (x i) (y i) := rfl

/-- The row maximum starts at minus infinity. -/
theorem low_at : val_main_cst_1 (F := Ideal) ix0 = (⊥ : EReal) := minus

/-- The row maximum is bounded below by minus infinity. -/
theorem floor_at (i : S2x16x2048.Idx) : val_main_v25 (F := Ideal) i = (⊥ : EReal) := minus

/-- The host's maximum along the keys. -/
theorem fold_max (y : S2x16x2048x2048.Idx → EReal) (z : S_.Idx → EReal) (b : Fin 2) (h : Fin 16) (r : Fin 2048) :
    Host.reduce (α := EReal) (FloatOps.maximumf (F := Ideal) (φ := .f32)) y z reducesTo_S2x16x2048x2048_S2x16x2048_d3 h_S_ (ix3 b h r) = Finset.univ.fold max (z ix0) (fun s => y (ix4 b h r s)) :=
  (congrArg (fun f => Host.reduce (α := EReal) f y z reducesTo_S2x16x2048x2048_S2x16x2048_d3 h_S_ (ix3 b h r)) max_eq).trans (fold_at y z b h r)

/-- The row maximum, from the starting value and the lower bound both minus infinity. -/
theorem top_gen (y : S2x16x2048x2048.Idx → EReal) (b : Fin 2) (h : Fin 16) (r : Fin 2048) :
    maximumf (F := Ideal) (φ := .f32) (val_main_v25 (F := Ideal))
      (Host.reduce (α := EReal) (FloatOps.maximumf (F := Ideal) (φ := .f32)) y (val_main_cst_1 (F := Ideal)) reducesTo_S2x16x2048x2048_S2x16x2048_d3 h_S_) (ix3 b h r)
      = Model.top (fun s => y (ix4 b h r s)) :=
  (max_at _ _ _).trans (congrArg₂ max (floor_at _) ((fold_max y _ b h r).trans (by rw [low_at])))

/-- A masked score, from the scalar product. -/
theorem score_gen (x1 : S1x1x2048x2048.Idx → BitVec 32) (d : S2x16x2048x2048.Idx → EReal) (b : Fin 2) (h : Fin 16) (r s : Fin 2048) :
    select (val_main_call0_v1 (F := Ideal) x1) (val_main_call0_v2 (F := Ideal)) (Host.divf (F := Ideal) (φ := .f32) d (val_main_v19 (F := Ideal))) (ix4 b h r s)
      = Scalar.select (IntOp.cmpi CmpIPredicate.eq (x1 (ix4 0 0 r s)) 0#32) (Ideal.ofBits .f32 0xFF800000#32) (Ideal.div (d (ix4 b h r s)) (Ideal.ofBits .f32 0x41000000#32)) := by
  pointwise [val_main_call0_v1, val_main_v22, val_main_v21, val_main_c, val_main_call0_v2, val_main_call0_v0, val_main_cst_0, val_main_v19, val_main_cst]
  rfl

/-- The exponential of a score less its row's maximum. -/
theorem weight_gen (y : S2x16x2048x2048.Idx → EReal) (t : S2x16x2048.Idx → EReal) (b : Fin 2) (h : Fin 16) (r s : Fin 2048) :
    Host.exp (F := Ideal) (φ := .f32) (subf (F := Ideal) (φ := .f32) y (broadcastInDim S2x16x2048x2048 ![0, 1, 2, 3] bcast_S2x16x2048x1_S2x16x2048x2048_0_1_2_3
      (broadcastInDim S2x16x2048x1 ![0, 1, 2] bcast_S2x16x2048_S2x16x2048x1_0_1_2 t))) (ix4 b h r s) = Ideal.exp (y (ix4 b h r s) - t (ix3 b h r)) := by
  pointwise

/-- The row total of an array. -/
theorem total_gen (y : S2x16x2048x2048.Idx → EReal) (b : Fin 2) (h : Fin 16) (r : Fin 2048) :
    Host.reduceAdd (F := Ideal) (φ := .f32) y (val_main_cst_3 (F := Ideal)) reducesTo_S2x16x2048x2048_S2x16x2048_d3 h_S_ (ix3 b h r) = ∑ s : Fin 2048, y (ix4 b h r s) := by
  pointwise [val_main_cst_3]

/-- The heads' outputs side by side. -/
theorem att_gen (p : S2x16x2048x2048.Idx → EReal) (l : S2x16x2048.Idx → EReal) (v : S2x16x2048x64.Idx → EReal) (b : Fin 2) (r : Fin 2048) (n : Fin 1024) :
    shapeCast S2x2048x1024 (transpose S2x2048x16x64 [0, 2, 1, 3] (Host.dotGeneral (F := Ideal) (φ₁ := .f32) (φ₂ := .f32) dot_S2x16x2048x2048_S2x16x2048x64_S2x16x2048x64_3_2_2_3_01_01 none
      (Host.divf (F := Ideal) (φ := .f32) p (broadcastInDim S2x16x2048x2048 ![0, 1, 2, 3] bcast_S2x16x2048x1_S2x16x2048x2048_0_1_2_3
        (broadcastInDim S2x16x2048x1 ![0, 1, 2] bcast_S2x16x2048_S2x16x2048x1_0_1_2 l))) v) transposes_S2x16x2048x64_S2x2048x16x64_0_2_1_3)
        shapeCasts_S2x2048x16x64_S2x2048x1024 (ix3 b r n)
      = ∑ s : Fin 2048, Ideal.div (p (ix4 b ⟨n.val / 64, by omega⟩ r s)) (l (ix3 b ⟨n.val / 64, by omega⟩ r)) * v (ix4 b ⟨n.val / 64, by omega⟩ s ⟨n.val % 64, by omega⟩) := by
  pointwise

/-- The output projection. -/
theorem out_gen (y : S2x2048x1024.Idx → EReal) (w : S1024x1024.Idx → EReal) (c : S1024.Idx → EReal) (b : Fin 2) (r : Fin 2048) (n : Fin 1024) :
    addf (F := Ideal) (φ := .f32) (Host.dotGeneral (F := Ideal) (φ₁ := .f32) (φ₂ := .f32) dot_S2x2048x1024_S1024x1024_S2x2048x1024_2_0_01_1_n_n none y w) (val_main_v40 (F := Ideal) c) (ix3 b r n)
      = (∑ k : Fin 1024, y (ix3 b r k) * w (ix2 k n)) + c (ix1 n) := by
  pointwise [val_main_v40, val_main_v39]

variable (x0 : S2x2048x1024.Idx → EReal) (x1 : S1x1x2048x2048.Idx → BitVec 32) (x2 : S1024x1024.Idx → EReal) (x3 : S1024.Idx → EReal)
  (x4 : S1024x1024.Idx → EReal) (x5 : S1024.Idx → EReal) (x6 : S1024x1024.Idx → EReal) (x7 : S1024.Idx → EReal) (x8 : S1024x1024.Idx → EReal)
  (x9 : S1024.Idx → EReal)

theorem q_at (b : Fin 2) (h : Fin 16) (r : Fin 2048) (e : Fin 64) :
    val_main_v5 (F := Ideal) x0 x2 x3 (ix4 b h r e) = Model.lin x0 x2 x3 b r (col h e) := by
  unfold Model.lin
  pointwise [val_main_v5, val_main_v4, val_main_v3, val_main_v2, val_main_v1, val_main_v0]
  rfl

theorem k_at (b : Fin 2) (h : Fin 16) (r : Fin 2048) (e : Fin 64) :
    val_main_v11 (F := Ideal) x0 x4 x5 (ix4 b h r e) = Model.lin x0 x4 x5 b r (col h e) := q_at x0 x4 x5 b h r e

theorem v_at (b : Fin 2) (h : Fin 16) (r : Fin 2048) (e : Fin 64) :
    val_main_v17 (F := Ideal) x0 x6 x7 (ix4 b h r e) = Model.lin x0 x6 x7 b r (col h e) := q_at x0 x6 x7 b h r e

theorem dot_at (b : Fin 2) (h : Fin 16) (r s : Fin 2048) :
    val_main_v18 (F := Ideal) x0 x2 x3 x4 x5 (ix4 b h r s) = ∑ e : Fin 64, Model.lin x0 x2 x3 b r (col h e) * Model.lin x0 x4 x5 b s (col h e) := by
  pointwise [val_main_v18]
  simp only [q_at, k_at]

theorem score_at (b : Fin 2) (n : Fin 1024) (r s : Fin 2048) :
    val_main_v23 (F := Ideal) x0 x1 x2 x3 x4 x5 (ix4 b ⟨n.val / 64, by omega⟩ r s)
      = Model.score (keep x1) (Model.lin x0 x2 x3 b) (Model.lin x0 x4 x5 b) n r s := by
  refine (score_gen x1 (val_main_v18 (F := Ideal) x0 x2 x3 x4 x5) b ⟨n.val / 64, by omega⟩ r s).trans ?_
  rw [eight, minus, dot_at]
  unfold Model.score keep
  by_cases h : x1 (ix4 0 0 r s) = 0#32
  · rw [if_neg (not_not.mpr h), h]
    rfl
  · rw [if_pos h]
    have e : IntOp.cmpi CmpIPredicate.eq (x1 (ix4 0 0 r s)) 0#32 = 0#1 := by
      have f : (x1 (ix4 0 0 r s) == 0#32) = false := beq_false_of_ne h
      exact congrArg BitVec.ofBool f
    rw [e]
    rfl

theorem top_at (b : Fin 2) (n : Fin 1024) (r : Fin 2048) :
    val_main_v26 (F := Ideal) x0 x1 x2 x3 x4 x5 (ix3 b ⟨n.val / 64, by omega⟩ r)
      = Model.top (Model.score (keep x1) (Model.lin x0 x2 x3 b) (Model.lin x0 x4 x5 b) n r) :=
  (top_gen (val_main_v23 (F := Ideal) x0 x1 x2 x3 x4 x5) b ⟨n.val / 64, by omega⟩ r).trans
    (congrArg Model.top (funext fun s => score_at x0 x1 x2 x3 x4 x5 b n r s))

theorem weight_at (b : Fin 2) (n : Fin 1024) (r s : Fin 2048) :
    val_main_v30 (F := Ideal) x0 x1 x2 x3 x4 x5 (ix4 b ⟨n.val / 64, by omega⟩ r s)
      = Ideal.exp (Model.score (keep x1) (Model.lin x0 x2 x3 b) (Model.lin x0 x4 x5 b) n r s
        - Model.top (Model.score (keep x1) (Model.lin x0 x2 x3 b) (Model.lin x0 x4 x5 b) n r)) :=
  (weight_gen (val_main_v23 (F := Ideal) x0 x1 x2 x3 x4 x5) (val_main_v26 (F := Ideal) x0 x1 x2 x3 x4 x5) b ⟨n.val / 64, by omega⟩ r s).trans
    (by rw [score_at, top_at])

theorem total_at (b : Fin 2) (n : Fin 1024) (r : Fin 2048) :
    val_main_v31 (F := Ideal) x0 x1 x2 x3 x4 x5 (ix3 b ⟨n.val / 64, by omega⟩ r)
      = ∑ s : Fin 2048, Ideal.exp (Model.score (keep x1) (Model.lin x0 x2 x3 b) (Model.lin x0 x4 x5 b) n r s
        - Model.top (Model.score (keep x1) (Model.lin x0 x2 x3 b) (Model.lin x0 x4 x5 b) n r)) :=
  (total_gen (val_main_v30 (F := Ideal) x0 x1 x2 x3 x4 x5) b ⟨n.val / 64, by omega⟩ r).trans
    (Finset.sum_congr rfl fun s _ => weight_at x0 x1 x2 x3 x4 x5 b n r s)

theorem lane_eq (n : Fin 1024) : col ⟨n.val / 64, by omega⟩ ⟨n.val % 64, by omega⟩ = n :=
  Fin.ext (Nat.div_add_mod' n.val 64)

theorem att_at (b : Fin 2) (r : Fin 2048) (n : Fin 1024) :
    val_main_v37 (F := Ideal) x0 x1 x2 x3 x4 x5 x6 x7 (ix3 b r n)
      = Model.early (keep x1) (Model.lin x0 x2 x3 b) (Model.lin x0 x4 x5 b) (Model.lin x0 x6 x7 b) r n := by
  refine (att_gen (val_main_v30 (F := Ideal) x0 x1 x2 x3 x4 x5) (val_main_v31 (F := Ideal) x0 x1 x2 x3 x4 x5)
    (val_main_v17 (F := Ideal) x0 x6 x7) b r n).trans (Finset.sum_congr rfl fun s _ => ?_)
  rw [weight_at, total_at, v_at, lane_eq]

theorem result_at (b : Fin 2) (r : Fin 2048) (n : Fin 1024) :
    val_main_v41 (F := Ideal) x0 x1 x2 x3 x4 x5 x6 x7 x8 x9 (ix3 b r n)
      = (∑ k : Fin 1024, Model.early (keep x1) (Model.lin x0 x2 x3 b) (Model.lin x0 x4 x5 b) (Model.lin x0 x6 x7 b) r k * x8 (ix2 k n)) + x9 (ix1 n) :=
  (out_gen (val_main_v37 (F := Ideal) x0 x1 x2 x3 x4 x5 x6 x7) x8 x9 b r n).trans
    (congrArg (· + x9 (ix1 n)) (Finset.sum_congr rfl fun k _ => congrArg (· * x8 (ix2 k n)) (att_at x0 x1 x2 x3 x4 x5 x6 x7 b r k)))

end Cert.Proof.Reference

end
-- ==== Proof.Precondition.lean ====
/- What the precondition says of the arguments: the mask keeps the keys up to the query, and five arguments are real. -/
module

public import proofs.«01_k».proof.Proof.Gen.Pre_causal_and_finite
public import Idealize.ShloMosaic.PureOps.Ideal
public import Idealize.ShloMosaic.Lib.Pointwise

@[expose] public section

noncomputable section

namespace Cert.Proof.Precondition

open Idealize.ShloMosaic Cert.Pre_causal_and_finite

attribute [local instance] Cert.Pre_causal_and_finite.Gen.facts

/-- Plus infinity. -/
theorem plus : Ideal.ofBits .f32 0x7F800000#32 = ⊤ := by
  simp [Ideal.ofBits, Ideal.ieee]

theorem ofBool_one (b : Bool) (h : BitVec.ofBool b = 1#1) : b = true := by
  cases b
  · exact absurd h (by decide)
  · rfl

/-- A number of absolute value less than plus infinity is real. -/
theorem real_of_lt (a : EReal) (h : Ideal.cmp .olt (max a (-a)) (Ideal.ofBits .f32 0x7F800000#32) = 1#1) : ∃ r : ℝ, a = r := by
  rw [plus] at h
  have h' : max a (-a) < ⊤ := of_decide_eq_true (ofBool_one _ h)
  rw [max_lt_iff] at h'
  induction a with
  | bot => exact absurd h'.2 (by simp)
  | coe r => exact ⟨r, rfl⟩
  | top => exact absurd h'.1 (by simp)

/-- The signed comparison of two small numbers. -/
theorem sle_small (s r : Fin 2048) : (BitVec.ofNat 32 s.val).sle (BitVec.ofNat 32 r.val) = decide (s.val ≤ r.val) := by
  have e : ∀ n : Fin 2048, (BitVec.ofNat 32 n.val).toInt = n.val := fun n => by
    have := n.isLt
    rw [BitVec.toInt_eq_toNat_of_lt (by rw [BitVec.toNat_ofNat]; omega), BitVec.toNat_ofNat, Nat.mod_eq_of_lt (by omega)]
  rw [BitVec.sle, e, e]
  simp

variable (x0 : S2x2048x1024.Idx → EReal) (x1 : S1x1x2048x2048.Idx → BitVec 32) (x2 : S1024x1024.Idx → EReal) (x3 : S1024.Idx → EReal)
  (x4 : S1024x1024.Idx → EReal) (x5 : S1024.Idx → EReal) (x6 : S1024x1024.Idx → EReal) (x7 : S1024.Idx → EReal) (x8 : S1024x1024.Idx → EReal)
  (x9 : S1024.Idx → EReal)

theorem causal (h : (fn (F := Ideal) x0 x1 x2 x3 x4 x5 x6 x7 x8 x9).1 = fun _ => 1#1) (r s : Fin 2048) :
    x1 (ix4 0 0 r s) ≠ 0#32 ↔ s.val ≤ r.val := by
  have e : BitVec.ofBool (BitVec.ofBool (x1 (ix4 0 0 r s) != 0#32) == BitVec.ofBool ((BitVec.ofNat 32 s.val).sle (BitVec.ofNat 32 r.val))) = 1#1 :=
    congrFun h (ix4 0 0 r s)
  have e' := eq_of_beq (ofBool_one _ e)
  rw [sle_small] at e'
  by_cases hx : x1 (ix4 0 0 r s) = 0#32 <;> by_cases hs : s.val ≤ r.val <;> simp_all

theorem real_x (h : (fn (F := Ideal) x0 x1 x2 x3 x4 x5 x6 x7 x8 x9).2.1 = fun _ => 1#1) (i : S2x2048x1024.Idx) : ∃ a : ℝ, x0 i = a :=
  real_of_lt _ (congrFun h i)

theorem real_wq (h : (fn (F := Ideal) x0 x1 x2 x3 x4 x5 x6 x7 x8 x9).2.2.1 = fun _ => 1#1) (i : S1024x1024.Idx) : ∃ a : ℝ, x2 i = a :=
  real_of_lt _ (congrFun h i)

theorem real_bq (h : (fn (F := Ideal) x0 x1 x2 x3 x4 x5 x6 x7 x8 x9).2.2.2.1 = fun _ => 1#1) (i : S1024.Idx) : ∃ a : ℝ, x3 i = a :=
  real_of_lt _ (congrFun h i)

theorem real_wk (h : (fn (F := Ideal) x0 x1 x2 x3 x4 x5 x6 x7 x8 x9).2.2.2.2.1 = fun _ => 1#1) (i : S1024x1024.Idx) : ∃ a : ℝ, x4 i = a :=
  real_of_lt _ (congrFun h i)

theorem real_bk (h : (fn (F := Ideal) x0 x1 x2 x3 x4 x5 x6 x7 x8 x9).2.2.2.2.2 = fun _ => 1#1) (i : S1024.Idx) : ∃ a : ℝ, x5 i = a :=
  real_of_lt _ (congrFun h i)

end Cert.Proof.Precondition

end
-- ==== Proof.Equal.lean ====
/- Under the precondition the reference's result is the kernel's. -/
module

public import proofs.«01_k».proof.Defs
public import proofs.«01_k».proof.Proof.Values
public import proofs.«01_k».proof.Proof.Reference
public import proofs.«01_k».proof.Proof.Precondition

@[expose] public section

noncomputable section

namespace Cert.Proof

open Idealize.ShloMosaic

attribute [local instance] Cert.Pre_causal_and_finite.Gen.facts

/-- A causal mask and real queries and keys: the reference's value is the output bias plus the attention through the output weights. -/
theorem reference_value (x0 : (⟨3, ![2, 2048, 1024]⟩ : Shape).Idx → EReal) (x1 : (⟨4, ![1, 1, 2048, 2048]⟩ : Shape).Idx → BitVec 32)
    (x2 x4 x6 x8 : (⟨2, ![1024, 1024]⟩ : Shape).Idx → EReal) (x3 x5 x7 x9 : (⟨1, ![1024]⟩ : Shape).Idx → EReal)
    (h : (Cert.Pre_causal_and_finite.fn (F := Ideal) x0 x1 x2 x3 x4 x5 x6 x7 x8 x9).1 = (fun _ => 1#1)
      ∧ (Cert.Pre_causal_and_finite.fn (F := Ideal) x0 x1 x2 x3 x4 x5 x6 x7 x8 x9).2.1 = (fun _ => 1#1)
      ∧ (Cert.Pre_causal_and_finite.fn (F := Ideal) x0 x1 x2 x3 x4 x5 x6 x7 x8 x9).2.2.1 = (fun _ => 1#1)
      ∧ (Cert.Pre_causal_and_finite.fn (F := Ideal) x0 x1 x2 x3 x4 x5 x6 x7 x8 x9).2.2.2.1 = (fun _ => 1#1)
      ∧ (Cert.Pre_causal_and_finite.fn (F := Ideal) x0 x1 x2 x3 x4 x5 x6 x7 x8 x9).2.2.2.2.1 = (fun _ => 1#1)
      ∧ (Cert.Pre_causal_and_finite.fn (F := Ideal) x0 x1 x2 x3 x4 x5 x6 x7 x8 x9).2.2.2.2.2 = (fun _ => 1#1))
    (b : Fin 2) (r : Fin 2048) (n : Fin 1024) :
    Cert.ReferenceIdeal.Read.val_main_v41 (F := Ideal) x0 x1 x2 x3 x4 x5 x6 x7 x8 x9 (ix3 b r n)
      = x9 (ix1 n) + ∑ k : Fin 1024, Model.late (Model.lin x0 x2 x3 b) (Model.lin x0 x4 x5 b) (Model.lin x0 x6 x7 b) r k * x8 (ix2 k n) := by
  obtain ⟨hm, hx, hwq, hbq, hwk, hbk⟩ := h
  have rx := Precondition.real_x x0 x1 x2 x3 x4 x5 x6 x7 x8 x9 hx
  obtain ⟨q, hq⟩ := Model.lin_real x0 x2 x3 rx (Precondition.real_wq x0 x1 x2 x3 x4 x5 x6 x7 x8 x9 hwq) (Precondition.real_bq x0 x1 x2 x3 x4 x5 x6 x7 x8 x9 hbq)
  obtain ⟨k, hk⟩ := Model.lin_real x0 x4 x5 rx (Precondition.real_wk x0 x1 x2 x3 x4 x5 x6 x7 x8 x9 hwk) (Precondition.real_bk x0 x1 x2 x3 x4 x5 x6 x7 x8 x9 hbk)
  rw [Reference.result_at, add_comm]
  refine congrArg (x9 (ix1 n) + ·) (Finset.sum_congr rfl fun j _ => congrArg (· * x8 (ix2 j n)) ?_)
  exact (Model.late_eq_early (Reference.keep x1) (Precondition.causal x0 x1 x2 x3 x4 x5 x6 x7 x8 x9 hm) _ _ _ (q b) (k b) (hq b) (hk b) r j).symm

open Cert.KernelIdeal in
/-- On the kernel's arguments the reference's result array is the kernel's. -/
theorem value_eq (m : (ℓ : Loc nD τ sig) → Buf (Elt Ideal) ℓ) (h : Cert.Pre_KernelIdeal_causal_and_finite m) (c : Dev nD) :
    Cert.ReferenceIdeal.Read.val_main_v41 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) = Gen.result m c := by
  funext i
  rw [eq_ix3 i]
  exact reference_value _ _ _ _ _ _ _ _ _ _ (h c) (i 0) (i 1) (i 2)

end Cert.Proof

end
-- ==== Proof.Same.lean ====
/- The printed kernel is the idealized program at the words the kernel prints. -/
module

public import proofs.«01_k».proof.Proof.Run
public import proofs.«01_k».proof.Proof.Gen.Kernel
public import proofs.«01_k».proof.Defs

@[expose] public section

set_option maxRecDepth 16384

noncomputable section

namespace Cert.Proof

open Idealize.ShloMosaic Idealize.SL.Sem

/-- Named constants read as the words the kernel prints: with them the idealized program is the printed one. -/
@[reducible] def asPrinted : Named Bits := ⟨fun _ _ {φ} b => FloatOps.ofBits φ b⟩

theorem sig_same : Cert.Kernel.sig = Cert.KernelIdeal.sig := rfl

theorem body_same : @Cert.Kernel.cc0_fused_attn Bits _ _ = @Cert.KernelIdeal.cc0_fused_attn Bits _ asPrinted _ := rfl

theorem table_same : @Cert.Kernel.defs₀ Bits _ _ = @Cert.KernelIdeal.defs₀ Bits _ asPrinted _ := by
  unfold Cert.Kernel.defs₀ Cert.KernelIdeal.defs₀
  rw [body_same]
  refine congrArg (Defs.onTc (nD := Cert.KernelIdeal.nD) (τ := Cert.KernelIdeal.τ) (sig := Cert.KernelIdeal.sig)) (funext fun x => funext fun y => ?_)
  match x, y with
  | 0, (t, s) => rfl

theorem defs_same : @Cert.Kernel.defs Bits _ _ = @Cert.KernelIdeal.defs Bits _ asPrinted _ := by
  unfold Cert.Kernel.defs Cert.KernelIdeal.defs
  rw [table_same]
  rfl

theorem main_same : @Cert.Kernel.main Bits _ _ = @Cert.KernelIdeal.main Bits _ _ := rfl

/-- The kernel as printed runs, keeps its arguments and leaves every counter at zero. -/
theorem kernel_frame : Cert.quiescent_Kernel := fun m ρ _ => by
  rw [defs_same, main_same]
  exact @Cert.KernelIdeal.Gen.run_frame Bits _ asPrinted m ρ

end Cert.Proof

end
-- ==== Proof.lean ====
/- The proof of the certificate's claims: each claim is one theorem below, put together in `claim`. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_causal_and_finite
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem

/-- The idealized kernel runs, keeps its arguments and leaves every counter at zero. -/
theorem ideal_frame : Cert.quiescent_KernelIdeal := fun m ρ _ => Cert.KernelIdeal.Gen.run_frame m ρ

/-- So does the reference, which has no counter. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The named constant is what the kernel's constant stands for. -/
theorem constants : Cert.preserves_Kernel_KernelIdeal := IdealRules.named_const.statement Cert.KernelIdeal.κ "log2e_over_8" .f32 0x3E38AA3B#32 _ rfl

/-- The two runs end with the same result array. -/
theorem algebraic : Cert.algebraic_KernelIdeal_ReferenceIdeal_pre_causal_and_finite (hPre_causal_and_finite := Cert.Pre_causal_and_finite.Gen.facts) := by
  intro m ρ m' ρ' h e
  refine ⟨fun c => Cert.KernelIdeal.Gen.result m c, Cert.KernelIdeal.Gen.run_value m ρ,
    (θ_run Cert.ReferenceIdeal.defs _ _).mono (fun r w c => ⟨(w c).1.trans ?_, (w c).2⟩) (Cert.ReferenceIdeal.Value.run m' ρ')⟩
  obtain ⟨e0, e1, e2, e3, e4, e5, e6, e7, e8, e9⟩ := e c
  rw [Cert.ReferenceIdeal.Read.val_main_v41_eq, e0, e1, e2, e3, e4, e5, e6, e7, e8, e9]
  exact value_eq m h c

theorem claim : Cert.Claim := ⟨Cert.Kernel.Gen.facts, Cert.KernelIdeal.Gen.facts, Cert.ReferenceIdeal.Gen.facts, Cert.Pre_causal_and_finite.Gen.facts,
  kernel_frame, ideal_frame, fun m ρ _ => ideal_frame m ρ trivial, reference_frame, fun m ρ _ => reference_frame m ρ trivial, constants, algebraic⟩

end Cert.Proof

end
